-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_admitted [hPre_admitted : Cert.Pre_admitted.Facts] (m : (ℓ : Loc Cert.KernelIdeal.nD Cert.KernelIdeal.τ Cert.KernelIdeal.sig) → Buf (Elt Ideal) ℓ) : Prop :=
  ∀ c : Dev Cert.KernelIdeal.nD,
    (Cert.Pre_admitted.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_admitted.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_admitted.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_admitted.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_admitted [hPre_admitted : Cert.Pre_admitted.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_admitted.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_admitted.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_admitted.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_admitted.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_admitted [hKernelIdeal : Cert.KernelIdeal.Facts] [hPre_admitted : Cert.Pre_admitted.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_admitted m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_admitted [hReferenceIdeal : Cert.ReferenceIdeal.Facts] [hPre_admitted : Cert.Pre_admitted.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_admitted m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_admitted [hKernelIdeal : Cert.KernelIdeal.Facts] [hReferenceIdeal : Cert.ReferenceIdeal.Facts] [hPre_admitted : Cert.Pre_admitted.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_admitted m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v0)) (v2 : (c : Dev Cert.KernelIdeal.nD) → Buf (Elt Ideal) ((c.tc : Thread Cert.KernelIdeal.nD Cert.KernelIdeal.τ).loc Cert.KernelIdeal.main_arg2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v0) = v1 c
          ∧ r.2.mem ((c.tc : Thread Cert.KernelIdeal.nD Cert.KernelIdeal.τ).loc Cert.KernelIdeal.main_arg2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v89) = v1 c
          ∧ r.2.mem ((c.tc : Thread Cert.ReferenceIdeal.nD Cert.ReferenceIdeal.τ).loc Cert.ReferenceIdeal.main_arg2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_admitted : Cert.Pre_admitted.Facts),
    quiescent_Kernel (hKernel := hKernel)
    ∧ quiescent_KernelIdeal (hKernelIdeal := hKernelIdeal)
    ∧ quiescent_KernelIdeal_pre_admitted (hKernelIdeal := hKernelIdeal) (hPre_admitted := hPre_admitted)
    ∧ quiescent_ReferenceIdeal (hReferenceIdeal := hReferenceIdeal)
    ∧ quiescent_ReferenceIdeal_pre_admitted (hReferenceIdeal := hReferenceIdeal) (hPre_admitted := hPre_admitted)
    ∧ preserves_Kernel_KernelIdeal
    ∧ algebraic_KernelIdeal_ReferenceIdeal_pre_admitted (hKernelIdeal := hKernelIdeal) (hReferenceIdeal := hReferenceIdeal) (hPre_admitted := hPre_admitted)
-- ==== Pre_admitted.lean ====
abbrev S4x1024x1024x6 : Shape := ⟨4, ![4, 1024, 1024, 6]⟩
abbrev S4x1024x128 : Shape := ⟨3, ![4, 1024, 128]⟩
abbrev S4x1024 : Shape := ⟨2, ![4, 1024]⟩
abbrev S128x512 : Shape := ⟨2, ![128, 512]⟩
abbrev S512x128 : Shape := ⟨2, ![512, 128]⟩
abbrev S128 : Shape := ⟨1, ![128]⟩
abbrev S4x1024x1024 : Shape := ⟨3, ![4, 1024, 1024]⟩
abbrev S_ : Shape := ⟨0, ![]⟩
abbrev S4x1x1024 : Shape := ⟨3, ![4, 1, 1024]⟩
abbrev S4x1024x32 : Shape := ⟨3, ![4, 1024, 32]⟩

class Facts : Prop where
  bcast_S_S4x1024x1024 : S_.BroadcastsInDim S4x1024x1024 (![] : Fin 0 → Fin S4x1024x1024.rank)
  bcast_S4x1024_S4x1x1024_0_2 : S4x1024.BroadcastsInDim S4x1x1024 (![0, 2] : Fin 2 → Fin S4x1x1024.rank)
  bcast_S4x1x1024_S4x1024x1024_0_1_2 : S4x1x1024.BroadcastsInDim S4x1024x1024 (![0, 1, 2] : Fin 3 → Fin S4x1024x1024.rank)
  reducesTo_S4x1024x1024_S_d0_1_2 : S4x1024x1024.ReducesTo [0, 1, 2] S_
  h_S_ : 0 < S_.numel
  sliceFits_S4x1024x1024_S4x1024x32 : S4x1024x1024.Slices (fun _ => 0) S4x1024x32
  bcast_S_S4x1024x32 : S_.BroadcastsInDim S4x1024x32 (![] : Fin 0 → Fin S4x1024x32.rank)
  reducesTo_S4x1024x32_S_d0_1_2 : S4x1024x32.ReducesTo [0, 1, 2] S_
  bcast_S_S4x1024x128 : S_.BroadcastsInDim S4x1024x128 (![] : Fin 0 → Fin S4x1024x128.rank)
  reducesTo_S4x1024x128_S_d0_1_2 : S4x1024x128.ReducesTo [0, 1, 2] S_
  bcast_S_S128x512 : S_.BroadcastsInDim S128x512 (![] : Fin 0 → Fin S128x512.rank)
  reducesTo_S128x512_S_d0_1 : S128x512.ReducesTo [0, 1] S_

variable [Facts]

def fn_part1 {F : FTy → Type} [FloatOps F] (main_v6 : IVec S_ 1) (main_v9 : IVec S_ 1) (main_v13 : IVec S_ 1) (main_v14 : FVec F S128x512 .f32) (main_cst_4 : FVec F S_ .f32) : IVec S_ 1 × IVec S_ 1 × IVec S_ 1 × IVec S_ 1 :=
  let main_v15 : FVec F S128x512 .f32 := broadcastInDim S128x512 ![] bcast_S_S128x512 main_cst_4
  let main_v16 : IVec S128x512 1 := cmpf .olt main_v14 main_v15
  let main_c_5 : IVec S_ 1 := constantI S_ 1 1#1
  let main_v17 : IVec S_ 1 := (fun x v => Host.reduce IntOp.andi x v reducesTo_S128x512_S_d0_1 h_S_) main_v16 main_c_5
  (main_v6, main_v9, main_v13, main_v17)

def fn {F : FTy → Type} [FloatOps F] (main_arg0 : FVec F S4x1024x1024x6 .f32) (main_arg1 : FVec F S4x1024x128 .f32) (main_arg2 : IVec S4x1024 1) (main_arg3 : FVec F S128x512 .f32) (main_arg4 : FVec F S128x512 .f32) (main_arg5 : FVec F S128x512 .f32) (main_arg6 : FVec F S512x128 .f32) (main_arg7 : FVec F S128 .f32) (main_arg8 : FVec F S4x1024x1024 .f32) : IVec S_ 1 × IVec S_ 1 × IVec S_ 1 × IVec S_ 1 :=
  let main_cst : FVec F S_ .f32 := constant S_ .f32 0x3F800000#32
  let main_v0 : FVec F S4x1024x1024 .f32 := broadcastInDim S4x1024x1024 ![] bcast_S_S4x1024x1024 main_cst
  let main_v1 : IVec S4x1024x1024 1 := cmpf .ole main_arg8 main_v0
  let main_v2 : IVec S4x1x1024 1 := broadcastInDim S4x1x1024 ![0, 2] bcast_S4x1024_S4x1x1024_0_2 main_arg2
  let main_v3 : IVec S4x1x1024 1 := noti main_v2
  let main_v4 : IVec S4x1024x1024 1 := broadcastInDim S4x1024x1024 ![0, 1, 2] bcast_S4x1x1024_S4x1024x1024_0_1_2 main_v3
  let main_v5 : IVec S4x1024x1024 1 := ori main_v1 main_v4
  let main_c : IVec S_ 1 := constantI S_ 1 1#1
  let main_v6 : IVec S_ 1 := (fun x v => Host.reduce IntOp.andi x v reducesTo_S4x1024x1024_S_d0_1_2 h_S_) main_v5 main_c
  let main_values : FVec F S4x1024x32 .f32 := (fun x => (Host.topK S4x1024x32 2 (FloatOps.cmpfTotal .gt) x sliceFits_S4x1024x1024_S4x1024x32).1) main_arg8
  let main_indices : IVec S4x1024x32 32 := (fun x => (Host.topK S4x1024x32 2 (FloatOps.cmpfTotal .gt) x sliceFits_S4x1024x1024_S4x1024x32).2) main_arg8
  let main_cst_0 : FVec F S_ .f32 := constant S_ .f32 0xBF800000#32
  let main_v7 : FVec F S4x1024x32 .f32 := broadcastInDim S4x1024x32 ![] bcast_S_S4x1024x32 main_cst_0
  let main_v8 : IVec S4x1024x32 1 := cmpf .ogt main_values main_v7
  let main_c_1 : IVec S_ 1 := constantI S_ 1 1#1
  let main_v9 : IVec S_ 1 := (fun x v => Host.reduce IntOp.andi x v reducesTo_S4x1024x32_S_d0_1_2 h_S_) main_v8 main_c_1
  let main_v10 : FVec F S4x1024x128 .f32 := Host.absf main_arg1
  let main_cst_2 : FVec F S_ .f32 := constant S_ .f32 0x7F800000#32
  let main_v11 : FVec F S4x1024x128 .f32 := broadcastInDim S4x1024x128 ![] bcast_S_S4x1024x128 main_cst_2
  let main_v12 : IVec S4x1024x128 1 := cmpf .olt main_v10 main_v11
  let main_c_3 : IVec S_ 1 := constantI S_ 1 1#1
  let main_v13 : IVec S_ 1 := (fun x v => Host.reduce IntOp.andi x v reducesTo_S4x1024x128_S_d0_1_2 h_S_) main_v12 main_c_3
  let main_v14 : FVec F S128x512 .f32 := Host.absf main_arg5
  let main_cst_4 : FVec F S_ .f32 := constant S_ .f32 0x7F800000#32
  fn_part1 (F := F) main_v6 main_v9 main_v13 main_v14 main_cst_4
-- ==== Kernel.lean ====
abbrev S4x1024x1024x6 : Shape := ⟨4, ![4, 1024, 1024, 6]⟩
abbrev S4x1024x128 : Shape := ⟨3, ![4, 1024, 128]⟩
abbrev S4x1024 : Shape := ⟨2, ![4, 1024]⟩
abbrev S128x512 : Shape := ⟨2, ![128, 512]⟩
abbrev S512x128 : Shape := ⟨2, ![512, 128]⟩
abbrev S128 : Shape := ⟨1, ![128]⟩
abbrev S4x1024x1024 : Shape := ⟨3, ![4, 1024, 1024]⟩
abbrev S1x256x1024 : Shape := ⟨3, ![1, 256, 1024]⟩
abbrev S1x1024x128 : Shape := ⟨3, ![1, 1024, 128]⟩
abbrev S1x256x128 : Shape := ⟨3, ![1, 256, 128]⟩
abbrev S256x1024 : Shape := ⟨2, ![256, 1024]⟩
abbrev S256 : Shape := ⟨1, ![256]⟩
abbrev S256x1 : Shape := ⟨2, ![256, 1]⟩
abbrev S1024x128 : Shape := ⟨2, ![1024, 128]⟩
abbrev S256x128 : Shape := ⟨2, ![256, 128]⟩
abbrev S256x512 : Shape := ⟨2, ![256, 512]⟩
abbrev S1x128 : Shape := ⟨2, ![1, 128]⟩

abbrev nBuf : Space → Nat
  | .hbm => 10
  | .vmem => 11
  | .smem => 0
  | _ => 0

abbrev bufTy : (tb : Table) → Fin (tcTables nBuf tb) → BufTy
  | .hbm, ⟨0, _⟩ => ⟨S4x1024x1024x6, .f32⟩
  | .hbm, ⟨1, _⟩ => ⟨S4x1024x128, .f32⟩
  | .hbm, ⟨2, _⟩ => ⟨S4x1024, .i1⟩
  | .hbm, ⟨3, _⟩ => ⟨S128x512, .f32⟩
  | .hbm, ⟨4, _⟩ => ⟨S128x512, .f32⟩
  | .hbm, ⟨5, _⟩ => ⟨S128x512, .f32⟩
  | .hbm, ⟨6, _⟩ => ⟨S512x128, .f32⟩
  | .hbm, ⟨7, _⟩ => ⟨S128, .f32⟩
  | .hbm, ⟨8, _⟩ => ⟨S4x1024x1024, .f32⟩
  | .hbm, ⟨9, _⟩ => ⟨S4x1024x128, .f32⟩
  | .local _ .vmem, ⟨0, _⟩ => ⟨S1x256x1024, .f32⟩
  | .local _ .vmem, ⟨1, _⟩ => ⟨S1x256x1024, .f32⟩
  | .local _ .vmem, ⟨2, _⟩ => ⟨S1x1024x128, .f32⟩
  | .local _ .vmem, ⟨3, _⟩ => ⟨S1x1024x128, .f32⟩
  | .local _ .vmem, ⟨4, _⟩ => ⟨S128x512, .f32⟩
  | .local _ .vmem, ⟨5, _⟩ => ⟨S512x128, .f32⟩
  | .local _ .vmem, ⟨6, _⟩ => ⟨S128, .f32⟩
  | .local _ .vmem, ⟨7, _⟩ => ⟨S1x256x128, .f32⟩
  | .local _ .vmem, ⟨8, _⟩ => ⟨S1x256x128, .f32⟩
  | .local _ .vmem, ⟨9, _⟩ => ⟨S256x1024, .f32⟩
  | .local _ .vmem, ⟨10, _⟩ => ⟨S256x1024, .f32⟩
  | _, _ => ⟨S4x1024x1024x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![4, 4], ![false, false]⟩

@[reducible] def k0_t1_loop : Scf.Loop 32 :=
  let c0_i32 : BitVec 32 := 0#32
  let c32_i32 : BitVec 32 := 32#32
  let v10 : BitVec 32 := Scalar.addi c0_i32 c32_i32
  let c1_i32 : BitVec 32 := 1#32
  ⟨c0_i32, v10, c1_i32⟩
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S4x1024x1024x6 : Shape := ⟨4, ![4, 1024, 1024, 6]⟩
abbrev S4x1024x128 : Shape := ⟨3, ![4, 1024, 128]⟩
abbrev S4x1024 : Shape := ⟨2, ![4, 1024]⟩
abbrev S128x512 : Shape := ⟨2, ![128, 512]⟩
abbrev S512x128 : Shape := ⟨2, ![512, 128]⟩
abbrev S128 : Shape := ⟨1, ![128]⟩
abbrev S4x1024x1024 : Shape := ⟨3, ![4, 1024, 1024]⟩
abbrev S4x1024x1024x3 : Shape := ⟨4, ![4, 1024, 1024, 3]⟩
abbrev S_ : Shape := ⟨0, ![]⟩
abbrev S4x1x1024 : Shape := ⟨3, ![4, 1, 1024]⟩
abbrev S4x1024x1 : Shape := ⟨3, ![4, 1024, 1]⟩
abbrev S4x1024x32 : Shape := ⟨3, ![4, 1024, 32]⟩
abbrev S4 : Shape := ⟨1, ![4]⟩
abbrev S4x1x1 : Shape := ⟨3, ![4, 1, 1]⟩
abbrev S1024 : Shape := ⟨1, ![1024]⟩
abbrev S1x1024x1 : Shape := ⟨3, ![1, 1024, 1]⟩
abbrev S4x1024x32x1 : Shape := ⟨4, ![4, 1024, 32, 1]⟩
abbrev S4x1024x32x2 : Shape := ⟨4, ![4, 1024, 32, 2]⟩
abbrev S4x1024x32x128 : Shape := ⟨4, ![4, 1024, 32, 128]⟩
abbrev S4x1024x512 : Shape := ⟨3, ![4, 1024, 512]⟩
abbrev S4x1024x8x64 : Shape := ⟨4, ![4, 1024, 8, 64]⟩
abbrev S4x8x1024x64 : Shape := ⟨4, ![4, 8, 1024, 64]⟩
abbrev S4x1024x32x512 : Shape := ⟨4, ![4, 1024, 32, 512]⟩
abbrev S4x1024x32x8x64 : Shape := ⟨5, ![4, 1024, 32, 8, 64]⟩
abbrev S4x8x1024x32x64 : Shape := ⟨5, ![4, 8, 1024, 32, 64]⟩
abbrev S4x8x1024x32 : Shape := ⟨4, ![4, 8, 1024, 32]⟩
abbrev S4x1x1024x32 : Shape := ⟨4, ![4, 1, 1024, 32]⟩
abbrev S4x8x1024 : Shape := ⟨3, ![4, 8, 1024]⟩
abbrev S4x8x1024x1 : Shape := ⟨4, ![4, 8, 1024, 1]⟩
abbrev S1x1x128 : Shape := ⟨3, ![1, 1, 128]⟩

abbrev nBuf : Space → Nat
  | .hbm => 130
  | .vmem => 0
  | .smem => 0
  | _ => 0

abbrev hbmTy0_0 (i : Nat) : BufTy := match i % 128 with
  | 0 => ⟨S4x1024x1024x6, .f32⟩
  | 1 => ⟨S4x1024x128, .f32⟩
  | 2 => ⟨S4x1024, .i1⟩
  | 3 => ⟨S128x512, .f32⟩
  | 4 => ⟨S128x512, .f32⟩
  | 5 => ⟨S128x512, .f32⟩
  | 6 => ⟨S512x128, .f32⟩
  | 7 => ⟨S128, .f32⟩
  | 8 => ⟨S4x1024x1024, .f32⟩
  | 9 => ⟨S4x1024x1024x3, .f32⟩
  | 10 => ⟨S4x1024x1024x3, .f32⟩
  | 11 => ⟨S_, .f32⟩
  | 12 => ⟨S4x1024x1024, .f32⟩
  | 13 => ⟨S4x1024x1024, .f32⟩
  | 14 => ⟨S4x1024x1024x3, .f32⟩
  | 15 => ⟨S4x1024x1024x3, .f32⟩
  | 16 => ⟨S_, .f32⟩
  | 17 => ⟨S4x1024x1024, .f32⟩
  | 18 => ⟨S4x1024x1024, .f32⟩
  | 19 => ⟨S_, .f32⟩
  | 20 => ⟨S4x1024x1024, .f32⟩
  | 21 => ⟨S4x1024x1024, .f32⟩
  | 22 => ⟨S_, .f32⟩
  | 23 => ⟨S4x1024x1024, .f32⟩
  | 24 => ⟨S4x1024x1024, .f32⟩
  | 25 => ⟨S4x1024x1024, .f32⟩
  | 26 => ⟨S4x1x1024, .i1⟩
  | 27 => ⟨S_, .f32⟩
  | 28 => ⟨S_, .f32⟩
  | 29 => ⟨S4x1024x1024, .i1⟩
  | 30 => ⟨S4x1024x1024, .f32⟩
  | 31 => ⟨S4x1024x1024, .f32⟩
  | 32 => ⟨S_, .f32⟩
  | 33 => ⟨S4x1024x1024, .f32⟩
  | 34 => ⟨S4x1024x1024, .i1⟩
  | 35 => ⟨S4x1x1024, .i1⟩
  | 36 => ⟨S4x1024x1024, .i1⟩
  | 37 => ⟨S4x1024x1024, .i1⟩
  | 38 => ⟨S4x1024x1, .i1⟩
  | 39 => ⟨S4x1024x1024, .i1⟩
  | 40 => ⟨S4x1024x1024, .i1⟩
  | 41 => ⟨S4x1024x1024, .f32⟩
  | 42 => ⟨S4x1024x1024, .f32⟩
  | 43 => ⟨S4x1024x32, .f32⟩
  | 44 => ⟨S4x1024x32, .i32⟩
  | 45 => ⟨S_, .f32⟩
  | 46 => ⟨S4x1024x32, .f32⟩
  | 47 => ⟨S4x1024x32, .i1⟩
  | 48 => ⟨S4, .i32⟩
  | 49 => ⟨S4x1x1, .i32⟩
  | 50 => ⟨S1024, .i32⟩
  | 51 => ⟨S1x1024x1, .i32⟩
  | 52 => ⟨S_, .i32⟩
  | 53 => ⟨S4x1x1, .i32⟩
  | 54 => ⟨S4x1x1, .i1⟩
  | 55 => ⟨S_, .i32⟩
  | 56 => ⟨S4x1x1, .i32⟩
  | 57 => ⟨S4x1x1, .i32⟩
  | 58 => ⟨S4x1x1, .i32⟩
  | 59 => ⟨S_, .i32⟩
  | 60 => ⟨S4x1024x32, .i32⟩
  | 61 => ⟨S4x1024x32, .i1⟩
  | 62 => ⟨S_, .i32⟩
  | 63 => ⟨S4x1024x32, .i32⟩
  | 64 => ⟨S4x1024x32, .i32⟩
  | 65 => ⟨S4x1024x32, .i32⟩
  | 66 => ⟨S4x1024x32, .i32⟩
  | 67 => ⟨S4x1024x32x1, .i32⟩
  | 68 => ⟨S4x1024x32x1, .i32⟩
  | 69 => ⟨S4x1024x32x2, .i32⟩
  | 70 => ⟨S4x1024x32x128, .f32⟩
  | 71 => ⟨S_, .i32⟩
  | 72 => ⟨S4x1x1, .i32⟩
  | 73 => ⟨S4x1x1, .i1⟩
  | 74 => ⟨S_, .i32⟩
  | 75 => ⟨S4x1x1, .i32⟩
  | 76 => ⟨S4x1x1, .i32⟩
  | 77 => ⟨S4x1x1, .i32⟩
  | 78 => ⟨S_, .i32⟩
  | 79 => ⟨S4x1024x32, .i32⟩
  | 80 => ⟨S4x1024x32, .i1⟩
  | 81 => ⟨S_, .i32⟩
  | 82 => ⟨S4x1024x32, .i32⟩
  | 83 => ⟨S4x1024x32, .i32⟩
  | 84 => ⟨S4x1024x32, .i32⟩
  | 85 => ⟨S4x1024x32, .i32⟩
  | 86 => ⟨S4x1024x32x1, .i32⟩
  | 87 => ⟨S4x1024x32x1, .i32⟩
  | 88 => ⟨S4x1024x32x2, .i32⟩
  | 89 => ⟨S4x1024x32, .i1⟩
  | 90 => ⟨S4x1024x32, .i1⟩
  | 91 => ⟨S4x1024x512, .f32⟩
  | 92 => ⟨S4x1024x8x64, .f32⟩
  | 93 => ⟨S4x8x1024x64, .f32⟩
  | 94 => ⟨S4x1024x32x512, .f32⟩
  | 95 => ⟨S4x1024x32x8x64, .f32⟩
  | 96 => ⟨S4x8x1024x32x64, .f32⟩
  | 97 => ⟨S4x1024x32x512, .f32⟩
  | 98 => ⟨S4x1024x32x8x64, .f32⟩
  | 99 => ⟨S4x8x1024x32x64, .f32⟩
  | 100 => ⟨S4x8x1024x32, .f32⟩
  | 101 => ⟨S_, .f32⟩
  | 102 => ⟨S4x8x1024x32, .f32⟩
  | 103 => ⟨S4x8x1024x32, .f32⟩
  | 104 => ⟨S4x1x1024x32, .i1⟩
  | 105 => ⟨S_, .f32⟩
  | 106 => ⟨S4x8x1024x32, .i1⟩
  | 107 => ⟨S4x8x1024x32, .f32⟩
  | 108 => ⟨S4x8x1024x32, .f32⟩
  | 109 => ⟨S_, .f32⟩
  | 110 => ⟨S4x8x1024, .f32⟩
  | 111 => ⟨S_, .f32⟩
  | 112 => ⟨S4x8x1024, .f32⟩
  | 113 => ⟨S4x8x1024, .f32⟩
  | 114 => ⟨S4x8x1024x1, .f32⟩
  | 115 => ⟨S4x8x1024x32, .f32⟩
  | 116 => ⟨S4x8x1024x32, .f32⟩
  | 117 => ⟨S4x8x1024x32, .f32⟩
  | 118 => ⟨S_, .f32⟩
  | 119 => ⟨S4x8x1024, .f32⟩
  | 120 => ⟨S4x8x1024x1, .f32⟩
  | 121 => ⟨S4x8x1024x32, .f32⟩
  | 122 => ⟨S4x8x1024x32, .f32⟩
  | 123 => ⟨S4x8x1024x64, .f32⟩
  | 124 => ⟨S4x1024x8x64, .f32⟩
  | 125 => ⟨S4x1024x512, .f32⟩
  | 126 => ⟨S4x1024x128, .f32⟩
  | 127 => ⟨S1x1x128, .f32⟩
  | _ => ⟨S4x1024x1024x6, .f32⟩

abbrev hbmTy0_1 (i : Nat) : BufTy := match i % 128 with
  | 0 => ⟨S4x1024x128, .f32⟩
  | 1 => ⟨S4x1024x128, .f32⟩
  | _ => ⟨S4x1024x1024x6, .f32⟩

abbrev hbmTy (i : Nat) : BufTy := match i / 128 with
  | 0 => hbmTy0_0 i
  | 1 => hbmTy0_1 i
  | _ => ⟨S4x1024x1024x6, .f32⟩

abbrev bufTy : (tb : Table) → Fin (tcTables nBuf tb) → BufTy
  | .hbm, ⟨i, _⟩ => hbmTy i
  | _, _ => ⟨S4x1024x1024x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_call0_v0 : Ref sig .tc := ⟨.hbm, 10, rfl⟩
abbrev main_call0_cst : Ref sig .tc := ⟨.hbm, 11, rfl⟩
abbrev main_call0_v1 : Ref sig .tc := ⟨.hbm, 12, rfl⟩
abbrev main_v1 : Ref sig .tc := ⟨.hbm, 13, rfl⟩
abbrev main_v2 : Ref sig .tc := ⟨.hbm, 14, rfl⟩
abbrev main_call1_v0 : Ref sig .tc := ⟨.hbm, 15, rfl⟩
abbrev main_call1_cst : Ref sig .tc := ⟨.hbm, 16, rfl⟩
abbrev main_call1_v1 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_v5 : Ref sig .tc := ⟨.hbm, 21, rfl⟩
abbrev main_cst_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst_1 : Ref sig .tc := ⟨.hbm, 27, rfl⟩
abbrev main_call2_v0 : Ref sig .tc := ⟨.hbm, 28, rfl⟩
abbrev main_call2_v1 : Ref sig .tc := ⟨.hbm, 29, rfl⟩
abbrev main_call2_v2 : Ref sig .tc := ⟨.hbm, 30, rfl⟩
abbrev main_v10 : Ref sig .tc := ⟨.hbm, 31, rfl⟩
abbrev main_cst_2 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_values : Ref sig .tc := ⟨.hbm, 43, rfl⟩
abbrev main_indices : Ref sig .tc := ⟨.hbm, 44, rfl⟩
abbrev main_cst_3 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_c : Ref sig .tc := ⟨.hbm, 52, rfl⟩
abbrev main_v27 : Ref sig .tc := ⟨.hbm, 53, rfl⟩
abbrev main_v28 : Ref sig .tc := ⟨.hbm, 54, rfl⟩
abbrev main_c_4 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_c_5 : Ref sig .tc := ⟨.hbm, 59, rfl⟩
abbrev main_v32 : Ref sig .tc := ⟨.hbm, 60, rfl⟩
abbrev main_v33 : Ref sig .tc := ⟨.hbm, 61, rfl⟩
abbrev main_c_6 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_c_7 : Ref sig .tc := ⟨.hbm, 71, rfl⟩
abbrev main_v42 : Ref sig .tc := ⟨.hbm, 72, rfl⟩
abbrev main_v43 : Ref sig .tc := ⟨.hbm, 73, rfl⟩
abbrev main_c_8 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_c_9 : Ref sig .tc := ⟨.hbm, 78, rfl⟩
abbrev main_v47 : Ref sig .tc := ⟨.hbm, 79, rfl⟩
abbrev main_v48 : Ref sig .tc := ⟨.hbm, 80, rfl⟩
abbrev main_c_10 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_cst_11 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_cst_12 : Ref sig .tc := ⟨.hbm, 105, rfl⟩
abbrev main_call3_v0 : Ref sig .tc := ⟨.hbm, 106, rfl⟩
abbrev main_call3_v1 : Ref sig .tc := ⟨.hbm, 107, rfl⟩
abbrev main_v71 : Ref sig .tc := ⟨.hbm, 108, rfl⟩
abbrev main_cst_13 : Ref sig .tc := ⟨.hbm, 109, rfl⟩
abbrev main_v72 : Ref sig .tc := ⟨.hbm, 110, rfl⟩
abbrev main_cst_14 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_cst_15 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩

abbrev nD : Nat := 1
abbrev τ : Topo := Topo.v7x

variable {F : FTy → Type} [FloatOps F]
-- ==== Proof.Order.lean ====
/-
  The mathematics of taking the 32 largest entries of one row of extended reals, apart from any program.

  A row is `x : Fin n → EReal`. `order x` lists its positions from the largest entry to the smallest, equal entries in
  the order of their positions. A program that takes the largest remaining entry again and again (the first one when
  several are equal) and overwrites it by a number takes the positions in exactly this order, as long as the entries it
  takes are above that number.
-/
module

public import Idealize.ShloMosaic.Lib.SortFacts
public import Mathlib.Data.EReal.Operations
public import Mathlib.Algebra.BigOperators.Group.Finset.Basic

@[expose] public section

noncomputable section

namespace Cert.Nbhd

open Idealize.ShloMosaic

variable {n : ℕ}

/-- Position `p` comes ahead of position `q`: its entry is larger, or the entries are equal and it lies further left. -/
def Ahead (x : Fin n → EReal) (p q : Fin n) : Prop := x q < x p ∨ (x q = x p ∧ p < q)

/-- What is ahead is at least as large. -/
theorem Ahead.le {x : Fin n → EReal} {p q : Fin n} (h : Ahead x p q) : x q ≤ x p :=
  h.elim le_of_lt fun h => h.1.le

/-- The comparison of a sort that puts larger entries first. -/
def larger (x : Fin n → EReal) (p q : Fin n) : Bool := decide (x q < x p)

/-- Inserting a position that lies left of all others keeps a list arranged. -/
theorem pairwise_insert (x : Fin n → EReal) (a : Fin n) (l : List (Fin n)) (ha : ∀ b ∈ l, a < b)
    (hl : l.Pairwise (Ahead x)) : (insertBefore (larger x) a l).Pairwise (Ahead x) := by
  induction l with
  | nil => exact List.pairwise_singleton _ _
  | cons b l ih =>
    rw [List.pairwise_cons] at hl
    unfold insertBefore
    by_cases h : x a < x b
    · rw [if_pos (by simpa [larger] using h), List.pairwise_cons]
      refine ⟨fun c hc => ?_, ih (fun c hc => ha c (List.mem_cons_of_mem b hc)) hl.2⟩
      rcases List.mem_cons.mp ((perm_insertBefore (larger x) a l).mem_iff.mp hc) with rfl | hc
      · exact Or.inl h
      · exact hl.1 c hc
    · rw [if_neg (by simpa [larger] using h), List.pairwise_cons]
      refine ⟨fun c hc => ?_, List.pairwise_cons.mpr hl⟩
      have hca : x c ≤ x a := by
        rcases List.mem_cons.mp hc with rfl | hc
        · exact not_lt.mp h
        · exact (hl.1 c hc).le.trans (not_lt.mp h)
      rcases lt_or_eq_of_le hca with hlt | heq
      · exact Or.inl hlt
      · exact Or.inr ⟨heq, ha c hc⟩

/-- The stable sort of positions given from left to right is arranged. -/
theorem pairwise_sort (x : Fin n → EReal) (l : List (Fin n)) (hl : l.Pairwise (· < ·)) :
    (stableSort (larger x) l).Pairwise (Ahead x) := by
  induction l with
  | nil => exact List.Pairwise.nil
  | cons a l ih =>
    rw [List.pairwise_cons] at hl
    unfold stableSort
    exact pairwise_insert x a _ (fun b hb => hl.1 b ((perm_stableSort (larger x) l).mem_iff.mp hb)) (ih hl.2)

/-- The positions of a row from its largest entry to its smallest, equal entries from left to right. -/
def order (x : Fin n → EReal) : Fin n → Fin n := sortedFrom (larger x)

/-- No position is listed twice. -/
theorem order_injective (x : Fin n → EReal) : Function.Injective (order x) := sortedFrom_injective _

/-- Every position is listed. -/
theorem order_surjective (x : Fin n → EReal) : Function.Surjective (order x) := sortedFrom_surjective _

/-- What is listed earlier is ahead. -/
theorem ahead_order (x : Fin n → EReal) {i j : Fin n} (hij : i < j) : Ahead x (order x i) (order x j) := by
  have hp : ∀ a b : Fin (sortPositions n (larger x)).length, a < b →
      Ahead x ((sortPositions n (larger x)).get a) ((sortPositions n (larger x)).get b) :=
    List.pairwise_iff_get.mp (pairwise_sort x (List.finRange n) (List.pairwise_lt_finRange n))
  exact hp _ _ hij

/-- Position `p` is among the first `k` of the order. -/
def Taken (x : Fin n → EReal) (k : ℕ) (p : Fin n) : Prop := ∃ r : Fin n, r.val < k ∧ order x r = p

open Classical in
/-- The row after `k` rounds: the entries taken so far overwritten by `low`. -/
def marked (low : EReal) (x : Fin n → EReal) (k : ℕ) (p : Fin n) : EReal := if Taken x k p then low else x p

open Classical in
/-- The weights after `k` rounds: `w` at the entries taken so far, zero elsewhere. -/
def weights (w : EReal) (x : Fin n → EReal) (k : ℕ) (p : Fin n) : EReal := if Taken x k p then w else 0

/-- Before the first round nothing is taken. -/
theorem not_taken_zero (x : Fin n → EReal) (p : Fin n) : ¬ Taken x 0 p := fun ⟨_, h, _⟩ => Nat.not_lt_zero _ h

/-- One more round takes the next position of the order. -/
theorem taken_succ (x : Fin n → EReal) (k : Fin n) (p : Fin n) :
    Taken x (k.val + 1) p ↔ Taken x k.val p ∨ p = order x k := by
  constructor
  · rintro ⟨r, hr, rfl⟩
    rcases Nat.lt_succ_iff_lt_or_eq.mp hr with h | h
    · exact Or.inl ⟨r, h, rfl⟩
    · exact Or.inr (congrArg _ (Fin.ext h))
  · rintro (⟨r, hr, rfl⟩ | rfl)
    · exact ⟨r, Nat.lt_succ_of_lt hr, rfl⟩
    · exact ⟨k, Nat.lt_succ_self _, rfl⟩

/-- The next position of the order has not been taken yet. -/
theorem not_taken_order (x : Fin n → EReal) (k : Fin n) : ¬ Taken x k.val (order x k) := by
  rintro ⟨r, hr, h⟩
  have := order_injective x h
  subst this
  exact absurd hr (lt_irrefl _)

/-- Before the first round the row is unchanged. -/
theorem marked_zero (low : EReal) (x : Fin n → EReal) (p : Fin n) : marked low x 0 p = x p :=
  if_neg (not_taken_zero x p)

/-- Before the first round all weights are zero. -/
theorem weights_zero (w : EReal) (x : Fin n → EReal) (p : Fin n) : weights w x 0 p = 0 :=
  if_neg (not_taken_zero x p)

/-- A round overwrites the next position of the order and leaves the others. -/
theorem marked_succ (low : EReal) (x : Fin n → EReal) (k : Fin n) (p : Fin n) :
    marked low x (k.val + 1) p = if p = order x k then low else marked low x k.val p := by
  unfold marked
  by_cases hp : p = order x k
  · rw [if_pos hp, if_pos ((taken_succ x k p).mpr (Or.inr hp))]
  · rw [if_neg hp]
    classical exact if_congr ((taken_succ x k p).trans (or_iff_left hp)) rfl rfl

/-- A round gives the next position of the order its weight. -/
theorem weights_succ (w : EReal) (x : Fin n → EReal) (k : Fin n) (p : Fin n) :
    weights w x (k.val + 1) p = weights w x k.val p + if p = order x k then w else 0 := by
  unfold weights
  by_cases hp : p = order x k
  · subst hp
    rw [if_pos ((taken_succ x k _).mpr (Or.inr rfl)), if_neg (not_taken_order x k), if_pos rfl, zero_add]
  · rw [if_neg hp, add_zero]
    classical exact if_congr ((taken_succ x k p).trans (or_iff_left hp)) rfl rfl

/-- The entry a round is to take is still in the row. -/
theorem marked_order (low : EReal) (x : Fin n → EReal) (k : Fin n) : marked low x k.val (order x k) = x (order x k) :=
  if_neg (not_taken_order x k)

/-- The `k` largest entries of a row are above `low`. -/
def Above (low : EReal) (x : Fin n → EReal) (k : ℕ) : Prop := ∀ r : Fin n, r.val < k → low < x (order x r)

/-- When `low` is below the entry a round is to take, that entry is the largest of the row, and no entry as large lies
    further left. -/
theorem marked_le (low : EReal) (x : Fin n → EReal) (k : Fin n) (hx : low < x (order x k)) (q : Fin n) :
    marked low x k.val q ≤ x (order x k) ∧ (marked low x k.val q = x (order x k) → order x k ≤ q) := by
  unfold marked
  by_cases hq : Taken x k.val q
  · rw [if_pos hq]
    exact ⟨hx.le, fun h => absurd h hx.ne⟩
  · rw [if_neg hq]
    obtain ⟨j, rfl⟩ := order_surjective x q
    rcases lt_trichotomy j k with h | rfl | h
    · exact absurd ⟨j, h, rfl⟩ hq
    · exact ⟨le_rfl, fun _ => le_rfl⟩
    · have ha := ahead_order x h
      refine ⟨ha.le, fun he => ?_⟩
      rcases ha with hlt | ⟨_, hlt⟩
      · exact absurd he hlt.ne
      · exact hlt.le

/-- A sum against the weights after `k` rounds is the sum over the first `k` positions of the order. -/
theorem sum_weights (w : EReal) (x : Fin n → EReal) {k : ℕ} (hk : k ≤ n) (a : Fin n → EReal) :
    ∑ p, weights w x k p * a p = ∑ r : Fin k, w * a (order x (r.castLE hk)) := by
  classical
  have hinj : Function.Injective fun r : Fin k => order x (r.castLE hk) :=
    (order_injective x).comp (Fin.castLE_injective hk)
  rw [← Finset.sum_image (s := Finset.univ) (g := fun r : Fin k => order x (r.castLE hk)) (f := fun p => w * a p)
    (fun r _ r' _ h => hinj h)]
  symm
  refine Finset.sum_subset_zero_on_sdiff (Finset.subset_univ _) (fun p hp => ?_) (fun p hp => ?_)
  · have hn : ¬ Taken x k p := by
      rintro ⟨r, hr, rfl⟩
      refine (Finset.mem_sdiff.mp hp).2 (Finset.mem_image.mpr ⟨⟨r.val, hr⟩, Finset.mem_univ _, rfl⟩)
    unfold weights
    rw [if_neg hn, zero_mul]
  · obtain ⟨r, -, rfl⟩ := Finset.mem_image.mp hp
    have ht : Taken x k (order x (r.castLE hk)) := ⟨r.castLE hk, r.isLt, rfl⟩
    unfold weights
    rw [if_pos ht]

/-- Sums of finite numbers: weighting rows by one number and then multiplying by a matrix gives the same as multiplying
    first and then weighting. -/
theorem swap_sums {k l : ℕ} (w : ℝ) (a : Fin k → Fin l → EReal) (b : Fin l → EReal)
    (ha : ∀ r c, ∃ y : ℝ, a r c = y) (hb : ∀ c, ∃ y : ℝ, b c = y) :
    ∑ c, (∑ r, (w : EReal) * a r c) * b c = ∑ r, (w : EReal) * ∑ c, a r c * b c := by
  choose a' ha using ha
  choose b' hb using hb
  simp only [ha, hb]
  have hsum : ∀ {ι : Type} (s : Finset ι) (f : ι → ℝ), ((∑ i ∈ s, f i : ℝ) : EReal) = ∑ i ∈ s, (f i : EReal) :=
    fun s f => map_sum (⟨⟨((↑) : ℝ → EReal), EReal.coe_zero⟩, EReal.coe_add⟩ : ℝ →+ EReal) f s
  simp only [← EReal.coe_mul, ← hsum]
  refine congrArg _ ?_
  simp only [Finset.sum_mul, Finset.mul_sum]
  rw [Finset.sum_comm]
  exact Finset.sum_congr rfl fun r _ => Finset.sum_congr rfl fun c _ => mul_assoc _ _ _

end Cert.Nbhd

end
-- ==== Proof.Rounds.lean ====
/-
  What the kernel's body leaves in its output block, as one expression of its input blocks: the three products applied to
  the weights that 32 rounds of its loop collect. The loop is read by induction on the number of rounds.
-/
module

public import proofs.«01_k».proof.Proof.Gen.KernelIdeal.Value
public import Idealize.ShloMosaic.Lib.VecWindow
public import Idealize.ShloMosaic.Lib.Tactic

@[expose] public section

noncomputable section

namespace Cert.KernelIdeal.Rounds

open Cert.KernelIdeal Cert.KernelIdeal.Gen Idealize.ShloMosaic Idealize.ShloMosaic.TcCoe Idealize.SL.Sem

variable {F : FTy → Type} [FloatOps F]

/-- The two scratch arrays after `k` rounds, from what they hold before the first: the entries still to be compared, and
    the weights collected. -/
def rounds (x w : Vec F S256x1024 .f32) : ℕ → Vec F S256x1024 .f32 × Vec F S256x1024 .f32
  | 0 => (x, w)
  | k + 1 => (k0_pay4 (rounds x w k).1, k0_pay5 (rounds x w k).1 (rounds x w k).2)

/-- One more round. -/
theorem rounds_succ (x w : Vec F S256x1024 .f32) (k : ℕ) :
    rounds x w (k + 1) = (k0_pay4 (rounds x w k).1, k0_pay5 (rounds x w k).1 (rounds x w k).2) := rfl

variable (𝒱 : Variants) (bd : Option 𝒱.V) (c : Dev nD) (i : grid0.Coords)
  (arg2 : Memref sig .tc .vmem S1x256x1024 .f32) (harg2 : arg2.IsWhole) (arg3 : Memref sig .tc .vmem S1x1024x128 .f32) (harg3 : arg3.IsWhole) (arg4 : Memref sig .tc .vmem S128x512 .f32) (harg4 : arg4.IsWhole)
  (arg5 : Memref sig .tc .vmem S512x128 .f32) (harg5 : arg5.IsWhole) (arg6 : Memref sig .tc .vmem S128 .f32) (harg6 : arg6.IsWhole) (arg7 : Memref sig .tc .vmem S1x256x128 .f32) (harg7 : arg7.IsWhole)
  (arg8 : Memref sig .tc .vmem S256x1024 .f32) (harg8 : arg8.IsWhole) (arg9 : Memref sig .tc .vmem S256x1024 .f32) (harg9 : arg9.IsWhole)

/-- One round stores one new array through each scratch buffer. -/
theorem trip_pieces (k : Fin k0_t1_loop.trips) (f8 : BufTy.Contents (Elt F) arg8.view.ty) (f9 : BufTy.Contents (Elt F) arg9.view.ty) :
    tripL_k0_t1 (F := F) 𝒱 c bd i arg2 harg2 arg3 harg3 arg4 harg4 arg5 harg5 arg6 harg6 arg7 harg7 arg8 harg8 arg9 harg9 k f8 f9
      = ([⟨Rect.unit ![0, 0] S256x1024.size inb_S256x1024_S256x1024_0_0, k0_pay4 (arg8.view.read (Elt F) f8)⟩],
         [⟨Rect.unit ![0, 0] S256x1024.size inb_S256x1024_S256x1024_0_0,
            k0_pay5 (arg8.view.read (Elt F) f8) (arg9.view.read (Elt F) f9)⟩]) := by
  have e8 : arg8.view.readAt (Elt F) (Rect.unit ![0, 0] ![256, 1024] inb_S256x1024_S256x1024_0_0).toLoadRect f8
      = arg8.view.read (Elt F) f8 := View.readAt_full arg8.view f8 inb_S256x1024_S256x1024_0_0
  have e9 : arg9.view.readAt (Elt F) (Rect.unit ![0, 0] ![256, 1024] inb_S256x1024_S256x1024_0_0).toLoadRect f9
      = arg9.view.read (Elt F) f9 := View.readAt_full arg9.view f9 inb_S256x1024_S256x1024_0_0
  rw [← e8, ← e9]
  unfold tripL_k0_t1
  unfold trip_k0_t1
  dsimp only

/-- After `k` rounds the scratch buffers hold what `rounds` says. -/
theorem read_rounds (G8 : BufTy.Contents (Elt F) arg8.view.ty) (G9 : BufTy.Contents (Elt F) arg9.view.ty) :
    ∀ k : ℕ, k ≤ k0_t1_loop.trips →
      arg8.view.read (Elt F) (arg8.view.writes (Elt F) G8 (pb_k0_t1 (F := F) 𝒱 c bd i arg2 harg2 arg3 harg3 arg4 harg4 arg5 harg5 arg6 harg6 arg7 harg7 arg8 harg8 arg9 harg9 G8 G9 k).1)
          = (rounds (arg8.view.read (Elt F) G8) (arg9.view.read (Elt F) G9) k).1
      ∧ arg9.view.read (Elt F) (arg9.view.writes (Elt F) G9 (pb_k0_t1 (F := F) 𝒱 c bd i arg2 harg2 arg3 harg3 arg4 harg4 arg5 harg5 arg6 harg6 arg7 harg7 arg8 harg8 arg9 harg9 G8 G9 k).2)
          = (rounds (arg8.view.read (Elt F) G8) (arg9.view.read (Elt F) G9) k).2
  | 0, _ => ⟨rfl, rfl⟩
  | k + 1, hk => by
    have ih := read_rounds G8 G9 k (Nat.le_of_succ_le hk)
    have hs := pb_k0_t1_succ (F := F) 𝒱 c bd i arg2 harg2 arg3 harg3 arg4 harg4 arg5 harg5 arg6 harg6 arg7 harg7 arg8 harg8 arg9 harg9 G8 G9 ⟨k, hk⟩
    rw [trip_pieces] at hs
    rw [hs, rounds_succ, ih.1, ih.2]
    have e8 := View.read_writes_full arg8.view G8 inb_S256x1024_S256x1024_0_0
      (k0_pay4 (rounds (arg8.view.read (Elt F) G8) (arg9.view.read (Elt F) G9) k).1)
      (pb_k0_t1 (F := F) 𝒱 c bd i arg2 harg2 arg3 harg3 arg4 harg4 arg5 harg5 arg6 harg6 arg7 harg7 arg8 harg8 arg9 harg9 G8 G9 k).1
    have e9 := View.read_writes_full arg9.view G9 inb_S256x1024_S256x1024_0_0
      (k0_pay5 (rounds (arg8.view.read (Elt F) G8) (arg9.view.read (Elt F) G9) k).1
        (rounds (arg8.view.read (Elt F) G8) (arg9.view.read (Elt F) G9) k).2)
      (pb_k0_t1 (F := F) 𝒱 c bd i arg2 harg2 arg3 harg3 arg4 harg4 arg5 harg5 arg6 harg6 arg7 harg7 arg8 harg8 arg9 harg9 G8 G9 k).2
    rw [List.singleton_append, List.singleton_append]
    constructor
    · dsimp only
      exact e8
    · dsimp only
      exact e9

/-- The loop runs 32 rounds. -/
theorem trips_eq : k0_t1_loop.trips = 32 := by decide +kernel

/-- The body's output block: the products of the weights after 32 rounds. -/
theorem out_eq (x0 : Vec F S1x256x1024 .f32) (x1 : Vec F S1x1024x128 .f32) (x2 : Vec F S128x512 .f32) (x3 : Vec F S512x128 .f32)
    (x4 : Vec F S128 .f32) :
    out0_A_5 c i arg2 harg2 arg3 harg3 arg4 harg4 arg5 harg5 arg6 harg6 arg7 harg7 arg8 harg8 arg9 harg9 x0 x1 x2 x3 x4
      = k0_pay6 (rounds (k0_pay1 x0) k0_pay2 32).2 x1 x2 x3 x4 := by
  have h3 : (![0, 0, 0] : Fin 3 → Nat) = fun _ => 0 := funext fun a => by fin_cases a <;> rfl
  have h2 : (![0, 0] : Fin 2 → Nat) = fun _ => 0 := funext fun a => by fin_cases a <;> rfl
  have h1 : (![0] : Fin 1 → Nat) = fun _ => 0 := funext fun a => by fin_cases a <;> rfl
  unfold out0_A_5
  unfold kernelRun0_A
  dsimp only
  sl_unfold_words
  have e0 : arg2.view.readAt (Elt F) (Rect.unit ![0, 0, 0] S1x256x1024.size inb_S1x256x1024_S1x256x1024_0_0_0).toLoadRect (harg2.unread x0) = x0 := by
    rw [View.readAt_eq_ld, harg2.read_unread]; exact View.ld_unit_zero (S := S1x256x1024) h3 _ _
  have e1 : arg3.view.readAt (Elt F) (Rect.unit ![0, 0, 0] ![1, 1024, 128] inb_S1x1024x128_S1x1024x128_0_0_0).toLoadRect (harg3.unread x1) = x1 := by
    rw [View.readAt_eq_ld, harg3.read_unread]; exact View.ld_unit_zero (S := S1x1024x128) h3 _ _
  have e2 : arg4.view.readAt (Elt F) (Rect.unit ![0, 0] ![128, 512] inb_S128x512_S128x512_0_0).toLoadRect (harg4.unread x2) = x2 := by
    rw [View.readAt_eq_ld, harg4.read_unread]; exact View.ld_unit_zero (S := S128x512) h2 _ _
  have e3 : arg5.view.readAt (Elt F) (Rect.unit ![0, 0] ![512, 128] inb_S512x128_S512x128_0_0).toLoadRect (harg5.unread x3) = x3 := by
    rw [View.readAt_eq_ld, harg5.read_unread]; exact View.ld_unit_zero (S := S512x128) h2 _ _
  have e4 : arg6.view.readAt (Elt F) (Rect.unit ![0] ![128] inb_S128_S128_0).toLoadRect (harg6.unread x4) = x4 := by
    rw [View.readAt_eq_ld, harg6.read_unread]; exact View.ld_unit_zero (S := S128) h1 _ _
  rw [e0, e1, e2, e3, e4]
  have hw := (read_rounds Variants.none none c i arg2 harg2 arg3 harg3 arg4 harg4 arg5 harg5 arg6 harg6 arg7 harg7 arg8 harg8 arg9 harg9
      (arg8.view.writes (Elt F) arg8.view.junk [⟨Rect.unit ![0, 0] S256x1024.size inb_S256x1024_S256x1024_0_0, k0_pay1 x0⟩])
      (arg9.view.writes (Elt F) arg9.view.junk [⟨Rect.unit ![0, 0] S256x1024.size inb_S256x1024_S256x1024_0_0, k0_pay2⟩])
      k0_t1_loop.trips le_rfl).2
  rw [View.read_writes_full, View.read_writes_full, ← View.writes_append, trips_eq] at hw
  have hcov : ∀ L : List (View.Piece (Elt F) S256x1024 .f32),
      arg9.view.readCov L (Rect.unit ![0, 0] S256x1024.size inb_S256x1024_S256x1024_0_0).toLoadRect
        = arg9.view.read (Elt F) (arg9.view.writes (Elt F) arg9.view.junk L) := fun L =>
    View.readAt_full arg9.view _ inb_S256x1024_S256x1024_0_0
  rw [hcov, ← hw]
  exact View.read_writes_full (s := S1x256x128) VO0_5 _ inb_S1x256x128_S1x256x128_0_0_0 _ []

end Cert.KernelIdeal.Rounds

end
-- ==== Proof.KernelValue.lean ====
/-
  The kernel's body over the extended reals, element by element. When the entries it takes are above -1, each round of
  the loop takes the next position of `Cert.Nbhd.order` of that row, so the output block is the mean of the selected
  rows sent through the two projections.
-/
module

public import proofs.«01_k».proof.Proof.Order
public import proofs.«01_k».proof.Proof.Rounds
public import Idealize.ShloMosaic.Lib.Pointwise
public import Idealize.ShloMosaic.PureOps.Ideal.Laws

@[expose] public section

noncomputable section

namespace Cert.KernelIdeal.Rounds

open Cert.KernelIdeal Cert.KernelIdeal.Gen Idealize.ShloMosaic Idealize.ShloMosaic.TcCoe Idealize.SL.Sem
open Cert.Nbhd

/-! ## The constants -/

/-- The word the kernel overwrites taken entries with is -1. -/
theorem low_eq : Ideal.ofBits .f32 0xBF800000#32 = ((-1 : ℝ) : EReal) := by
  simp [Ideal.ofBits, Ideal.ieee]
  rw [← EReal.coe_mul]; norm_num

/-- The word of the weight is 1/32. -/
theorem weight_eq : Ideal.ofBits .f32 0x3D000000#32 = ((1 / 32 : ℝ) : EReal) := by
  simp [Ideal.ofBits, Ideal.ieee]
  rw [← EReal.coe_mul]; norm_num

/-- The word the row maximum starts from is the least extended real. -/
theorem bottom_eq : Ideal.ofBits .f32 0xFF800000#32 = ⊥ := by
  simp [Ideal.ofBits, Ideal.ieee]

/-! ## Which position a round hits -/

/-- The smaller of two small naturals as signed words. -/
theorem minsi_ofNat (a b : ℕ) (ha : a < 2 ^ 31) (hb : b < 2 ^ 31) :
    IntOp.minsi (BitVec.ofNat 32 a) (BitVec.ofNat 32 b) = BitVec.ofNat 32 (min a b) := by
  have ia : (BitVec.ofNat 32 a).toInt = a := by
    rw [BitVec.toInt_eq_toNat_cond, BitVec.toNat_ofNat]; split <;> omega
  have ib : (BitVec.ofNat 32 b).toInt = b := by
    rw [BitVec.toInt_eq_toNat_cond, BitVec.toNat_ofNat]; split <;> omega
  unfold IntOp.minsi
  by_cases h : a < b
  · rw [if_pos (by rw [BitVec.slt_iff_toInt_lt, ia, ib]; exact_mod_cast h), min_eq_left h.le]
  · rw [if_neg (by rw [BitVec.slt_iff_toInt_lt, ia, ib]; exact_mod_cast h), min_eq_right (not_lt.mp h)]

/-- The least of a family of small naturals as signed words. -/
theorem fold_minsi_ofNat {ι : Type} (s : Finset ι) (b : ℕ) (hb : b < 2 ^ 31) (g : ι → ℕ) (hg : ∀ i, g i < 2 ^ 31) :
    s.fold IntOp.minsi (BitVec.ofNat 32 b) (fun i => BitVec.ofNat 32 (g i)) = BitVec.ofNat 32 (s.fold min b g) := by
  classical
  induction s using Finset.induction_on with
  | empty => rfl
  | insert i s hi ih =>
    rw [Finset.fold_insert hi, Finset.fold_insert hi, ih]
    exact minsi_ofNat _ _ (hg i) (lt_of_le_of_lt (Finset.fold_min_le b |>.mpr (Or.inl le_rfl)) hb)

/-- Where `q` holds the largest entry of row `r` and no entry as large lies further left, the round hits `q` only. -/
theorem hit_apply (v : Vec Ideal S256x1024 .f32) (r : Fin 256) (q : Fin 1024)
    (hmax : ∀ p, (v (ix2 r p) : EReal) ≤ v (ix2 r q))
    (hfirst : ∀ p, (v (ix2 r p) : EReal) = v (ix2 r q) → q ≤ p) (p : Fin 1024) :
    k0_pay3 (F := Ideal) v (ix2 r p) = if p = q then 1#1 else 0#1 := by
  pointwise [k0_pay3]
  rw [bottom_eq]
  have hm : Finset.fold max (⊥ : EReal) (fun x => v (ix2 r x)) Finset.univ = v (ix2 r q) :=
    le_antisymm ((Finset.fold_max_le _).mpr ⟨bot_le, fun p _ => hmax p⟩)
      ((Finset.le_fold_max _).mpr (Or.inr ⟨q, Finset.mem_univ _, le_rfl⟩))
  rw [hm]
  have hf : (fun x : Fin 1024 => if v (ix2 r x) = v (ix2 r q) then BitVec.ofNat 32 x.val else 1024#32)
      = fun x : Fin 1024 => BitVec.ofNat 32 (if v (ix2 r x) = v (ix2 r q) then x.val else 1024) :=
    funext fun x => by split <;> rfl
  rw [hf, show (2147483647#32) = BitVec.ofNat 32 2147483647 from rfl, fold_minsi_ofNat _ _ (by norm_num) _ (fun x => by
    have := x.isLt; split <;> omega)]
  have hmin : Finset.fold min 2147483647 (fun x : Fin 1024 => if v (ix2 r x) = v (ix2 r q) then x.val else 1024) Finset.univ
      = q.val := by
    refine le_antisymm ((Finset.fold_min_le _).mpr (Or.inr ⟨q, Finset.mem_univ _, by rw [if_pos rfl]⟩))
      ((Finset.le_fold_min _).mpr ⟨by have := q.isLt; omega, fun x _ => ?_⟩)
    by_cases h : (v (ix2 r x) : EReal) = v (ix2 r q)
    · rw [if_pos h]; exact hfirst x h
    · rw [if_neg h]; exact q.isLt.le
  rw [hmin]
  have hpq : (BitVec.ofNat 32 p.val = BitVec.ofNat 32 q.val) ↔ p = q := by
    constructor
    · intro h
      have := congrArg BitVec.toNat h
      simp only [BitVec.toNat_ofNat] at this
      have := p.isLt; have := q.isLt
      exact Fin.ext (by omega)
    · rintro rfl; rfl
  unfold IntOp.cmpi
  by_cases h : p = q
  · subst h; simp
  · rw [if_neg h]
    rw [beq_eq_false_iff_ne.mpr (mt hpq.mp h)]; rfl

/-! ## The scratch arrays after `k` rounds -/

/-- Row `r` of an array of 256 rows. -/
def row (v : Vec Ideal S256x1024 .f32) (r : Fin 256) : Fin 1024 → EReal := fun p => v (ix2 r p)

/-- After `k` rounds row `r` of the scratch arrays holds the row with the first `k` positions of its order overwritten,
    and the weights of these positions. -/
theorem rounds_row (x : Vec Ideal S256x1024 .f32) (r : Fin 256) {l : ℕ} (hl : l ≤ 1024)
    (hx : Above ((-1 : ℝ) : EReal) (row x r) l) : ∀ k : ℕ, k ≤ l → ∀ p,
      (rounds x (k0_pay2 (F := Ideal)) k).1 (ix2 r p) = marked ((-1 : ℝ) : EReal) (row x r) k p
      ∧ (rounds x (k0_pay2 (F := Ideal)) k).2 (ix2 r p) = weights ((1 / 32 : ℝ) : EReal) (row x r) k p
  | 0, _, p => by
    refine ⟨(marked_zero _ (row x r) p).symm, ?_⟩
    rw [weights_zero]
    show k0_pay2 (F := Ideal) (ix2 r p) = (0 : EReal)
    pointwise [k0_pay2]
  | k + 1, hk, p => by
    have ih := rounds_row x r hl hx k (Nat.le_of_succ_le hk)
    have hn := hk.trans hl
    have hle := marked_le ((-1 : ℝ) : EReal) (row x r) ⟨k, hn⟩ (hx _ hk)
    have hord := marked_order ((-1 : ℝ) : EReal) (row x r) ⟨k, hn⟩
    have hhit := hit_apply (rounds x (k0_pay2 (F := Ideal)) k).1 r (order (row x r) ⟨k, hn⟩)
      (fun q => by rw [(ih q).1, (ih _).1, hord]; exact (hle q).1)
      (fun q => by rw [(ih q).1, (ih _).1, hord]; exact (hle q).2) p
    have e1 := marked_succ ((-1 : ℝ) : EReal) (row x r) ⟨k, hn⟩ p
    have e2 := weights_succ ((1 / 32 : ℝ) : EReal) (row x r) ⟨k, hn⟩ p
    dsimp only at e1 e2
    rw [e1, e2, rounds_succ]
    constructor
    · dsimp only
      pointwise [k0_pay4]
      rw [hhit, (ih p).1, low_eq]
      by_cases h : p = order (row x r) ⟨k, hn⟩
      · rw [if_pos h, if_pos h]; rfl
      · rw [if_neg h, if_neg h]; rfl
    · dsimp only
      pointwise [k0_pay5]
      rw [hhit, (ih p).2, weight_eq]
      by_cases h : p = order (row x r) ⟨k, hn⟩
      · rw [if_pos h, if_pos h]; rfl
      · rw [if_neg h, if_neg h]; rfl

/-! ## The output block -/

/-- The last step of the body at one row, from an array of weights. -/
theorem project_apply (w : Vec Ideal S256x1024 .f32) (x1 : Vec Ideal S1x1024x128 .f32) (x2 : Vec Ideal S128x512 .f32)
    (x3 : Vec Ideal S512x128 .f32) (x4 : Vec Ideal S128 .f32) (r : Fin 256) (o : Fin 128) :
    k0_pay6 (F := Ideal) w x1 x2 x3 x4 (ix3 0 r o)
      = ((∑ d : Fin 512, (∑ e : Fin 128, (∑ p : Fin 1024, (w (ix2 r p) : EReal) * x1 (ix3 0 p e)) * x2 (ix2 e d))
          * x3 (ix2 d o)) + x4 (ix1 o) : EReal) := by
  pointwise [k0_pay6]

/-- The kernel's result at one row, from that row of the noise, the table of rows `a` and the two matrices: the
    selected rows averaged, then sent through both matrices, then shifted. -/
theorem out_apply (x0 : Vec Ideal S1x256x1024 .f32) (x1 : Vec Ideal S1x1024x128 .f32) (x2 : Vec Ideal S128x512 .f32)
    (x3 : Vec Ideal S512x128 .f32) (x4 : Vec Ideal S128 .f32) (r : Fin 256) (o : Fin 128)
    (hx : Above ((-1 : ℝ) : EReal) (fun p => (x0 (ix3 0 r p) : EReal)) 32) :
    k0_pay6 (F := Ideal) (rounds (k0_pay1 x0) (k0_pay2 (F := Ideal)) 32).2 x1 x2 x3 x4 (ix3 0 r o)
      = ((∑ d : Fin 512, (∑ e : Fin 128, (∑ j : Fin 32, ((1 / 32 : ℝ) : EReal)
            * x1 (ix3 0 (order (fun p => (x0 (ix3 0 r p) : EReal)) (j.castLE (by decide))) e)) * x2 (ix2 e d)) * x3 (ix2 d o))
        + x4 (ix1 o) : EReal) := by
  have hrow : row (k0_pay1 (F := Ideal) x0) r = fun p => (x0 (ix3 0 r p) : EReal) := funext fun p => by
    show k0_pay1 (F := Ideal) x0 (ix2 r p) = x0 (ix3 0 r p)
    pointwise [k0_pay1]
  have hw : ∀ p, ((rounds (k0_pay1 x0) (k0_pay2 (F := Ideal)) 32).2 (ix2 r p) : EReal)
      = weights ((1 / 32 : ℝ) : EReal) (fun p => (x0 (ix3 0 r p) : EReal)) 32 p := fun p => by
    rw [← hrow] at hx ⊢; exact (rounds_row _ r (by decide) hx 32 le_rfl p).2
  rw [project_apply]
  simp only [hw, sum_weights _ _ (show 32 ≤ 1024 by decide)]

end Cert.KernelIdeal.Rounds

end
-- ==== Proof.KernelArray.lean ====
/-
  The kernel's output array after the run, element by element: each of the sixteen grid points writes the block of 256
  rows it computed from its own blocks of the inputs, and the blocks tile the array.
-/
module

public import proofs.«01_k».proof.Proof.KernelValue
public import Idealize.ShloMosaic.Lib.Pipeline.Value
public import Idealize.ShloMosaic.Lib.Tactic

@[expose] public section

noncomputable section

namespace Cert.KernelIdeal.Rounds

open Cert.KernelIdeal Cert.KernelIdeal.Gen Cert.KernelIdeal.Value Idealize.ShloMosaic Idealize.ShloMosaic.TcCoe
open Idealize.SL.Sem
open Cert.Nbhd

/-- The kernel's result as a function of its inputs: the mean of the 32 rows of `a` that come first in the order of a
    row of `noise`, sent through `wv` and `wo`, plus `bo`. -/
def result (noise : Vec Ideal S4x1024x1024 .f32) (a : Vec Ideal S4x1024x128 .f32) (wv : Vec Ideal S128x512 .f32)
    (wo : Vec Ideal S512x128 .f32) (bo : Vec Ideal S128 .f32) (b : Fin 4) (i : Fin 1024) (o : Fin 128) : EReal :=
  (∑ d : Fin 512, (∑ e : Fin 128, (∑ j : Fin 32, ((1 / 32 : ℝ) : EReal)
      * a (ix3 b (order (fun p => (noise (ix3 b i p) : EReal)) (j.castLE (by decide))) e)) * wv (ix2 e d)) * wo (ix2 d o))
    + bo (ix1 o)

variable (m : (ℓ : Loc nD τ sig) → Buf (Elt Ideal) ℓ)

/-- The result of the kernel on device `c`'s inputs, as contents of the output array. -/
def resultArr (c : Dev nD) : Buf (Elt Ideal) ((c : Thread nD τ).loc main_v0) := fun i =>
  result (m ((c : Thread nD τ).loc main_arg8)) (m ((c : Thread nD τ).loc main_arg1)) (m ((c : Thread nD τ).loc main_arg5))
    (m ((c : Thread nD τ).loc main_arg6)) (m ((c : Thread nD τ).loc main_arg7)) (i 0) (i 1) (i 2)

/-! ## Which block a grid point works on -/

/-- Point `t` works on batch `t / 4`. -/
def batch (t : Fin cfg0.N) : Fin 4 := ⟨t.val / 4, by have := t.isLt; have : cfg0.N = 16 := N_0; omega⟩

/-- Row `r` of point `t`'s block is row `256 * (t % 4) + r` of the array. -/
def rowOf (t : Fin cfg0.N) (r : Fin 256) : Fin 1024 := ⟨256 * (t.val % 4) + r.val, by have := r.isLt; omega⟩

/-- The block of the noise at each point. -/
theorem index0 : ∀ t : Fin cfg0.N, win0_0.index t 0 = t.val / 4 ∧ win0_0.index t 1 = t.val % 4 ∧ win0_0.index t 2 = 0 :=
  (by decide +kernel : ∀ t : Fin grid0.N, win0_0.index t 0 = t.val / 4 ∧ win0_0.index t 1 = t.val % 4 ∧ win0_0.index t 2 = 0)

/-- The block of the table of rows at each point. -/
theorem index1 : ∀ t : Fin cfg0.N, win0_1.index t 0 = t.val / 4 ∧ win0_1.index t 1 = 0 ∧ win0_1.index t 2 = 0 :=
  (by decide +kernel : ∀ t : Fin grid0.N, win0_1.index t 0 = t.val / 4 ∧ win0_1.index t 1 = 0 ∧ win0_1.index t 2 = 0)

/-- Each point reads the matrices and the shift whole. -/
theorem index234 : ∀ t : Fin cfg0.N, (win0_2.index t 0 = 0 ∧ win0_2.index t 1 = 0)
    ∧ (win0_3.index t 0 = 0 ∧ win0_3.index t 1 = 0) ∧ win0_4.index t 0 = 0 :=
  (by decide +kernel : ∀ t : Fin grid0.N, (win0_2.index t 0 = 0 ∧ win0_2.index t 1 = 0)
    ∧ (win0_3.index t 0 = 0 ∧ win0_3.index t 1 = 0) ∧ win0_4.index t 0 = 0)

/-- The block of the output at each point. -/
theorem index5 : ∀ t : Fin cfg0.N, win0_5.index t 0 = t.val / 4 ∧ win0_5.index t 1 = t.val % 4 ∧ win0_5.index t 2 = 0 :=
  (by decide +kernel : ∀ t : Fin grid0.N, win0_5.index t 0 = t.val / 4 ∧ win0_5.index t 1 = t.val % 4 ∧ win0_5.index t 2 = 0)

/-- Point `t`'s block of the noise. -/
theorem noise_apply (c : Dev nD) (t : Fin cfg0.N) (r : Fin 256) (p : Fin 1024) :
    (iblk m c 0 t : Vec Ideal S1x256x1024 .f32) (ix3 0 r p) = m ((c : Thread nD τ).loc main_arg8) (ix3 (batch t) (rowOf t r) p) := by
  unfold iblk
  rw [View.read_apply]
  show V m c main_arg8 _ = _
  rw [V_main_arg8]
  congr 1
  funext a
  apply Fin.ext
  match a with
  | ⟨0, _⟩ => show win0_0.index t 0 * 1 + 1 * 0 = t.val / 4; rw [(index0 t).1]; omega
  | ⟨1, _⟩ => show win0_0.index t 1 * 256 + 1 * r.val = 256 * (t.val % 4) + r.val; rw [(index0 t).2.1]; omega
  | ⟨2, _⟩ => show win0_0.index t 2 * 1024 + 1 * p.val = p.val; rw [(index0 t).2.2]; omega

/-- Point `t`'s block of the table of rows. -/
theorem table_apply (c : Dev nD) (t : Fin cfg0.N) (p : Fin 1024) (e : Fin 128) :
    (iblk m c 1 t : Vec Ideal S1x1024x128 .f32) (ix3 0 p e) = m ((c : Thread nD τ).loc main_arg1) (ix3 (batch t) p e) := by
  unfold iblk
  rw [View.read_apply]
  show V m c main_arg1 _ = _
  rw [V_main_arg1]
  congr 1
  funext a
  apply Fin.ext
  match a with
  | ⟨0, _⟩ => show win0_1.index t 0 * 1 + 1 * 0 = t.val / 4; rw [(index1 t).1]; omega
  | ⟨1, _⟩ => show win0_1.index t 1 * 1024 + 1 * p.val = p.val; rw [(index1 t).2.1]; omega
  | ⟨2, _⟩ => show win0_1.index t 2 * 128 + 1 * e.val = e.val; rw [(index1 t).2.2]; omega

/-- The first matrix as each point reads it. -/
theorem first_apply (c : Dev nD) (t : Fin cfg0.N) (e : Fin 128) (d : Fin 512) :
    (iblk m c 2 t : Vec Ideal S128x512 .f32) (ix2 e d) = m ((c : Thread nD τ).loc main_arg5) (ix2 e d) := by
  unfold iblk
  rw [View.read_apply]
  show V m c main_arg5 _ = _
  rw [V_main_arg5]
  congr 1
  funext a
  apply Fin.ext
  match a with
  | ⟨0, _⟩ => show win0_2.index t 0 * 128 + 1 * e.val = e.val; rw [(index234 t).1.1]; omega
  | ⟨1, _⟩ => show win0_2.index t 1 * 512 + 1 * d.val = d.val; rw [(index234 t).1.2]; omega

/-- The second matrix as each point reads it. -/
theorem second_apply (c : Dev nD) (t : Fin cfg0.N) (d : Fin 512) (o : Fin 128) :
    (iblk m c 3 t : Vec Ideal S512x128 .f32) (ix2 d o) = m ((c : Thread nD τ).loc main_arg6) (ix2 d o) := by
  unfold iblk
  rw [View.read_apply]
  show V m c main_arg6 _ = _
  rw [V_main_arg6]
  congr 1
  funext a
  apply Fin.ext
  match a with
  | ⟨0, _⟩ => show win0_3.index t 0 * 512 + 1 * d.val = d.val; rw [(index234 t).2.1.1]; omega
  | ⟨1, _⟩ => show win0_3.index t 1 * 128 + 1 * o.val = o.val; rw [(index234 t).2.1.2]; omega

/-- The shift as each point reads it. -/
theorem shift_apply (c : Dev nD) (t : Fin cfg0.N) (o : Fin 128) :
    (iblk m c 4 t : Vec Ideal S128 .f32) (ix1 o) = m ((c : Thread nD τ).loc main_arg7) (ix1 o) := by
  unfold iblk
  rw [View.read_apply]
  show V m c main_arg7 _ = _
  rw [V_main_arg7]
  congr 1
  funext a
  apply Fin.ext
  match a with
  | ⟨0, _⟩ => show win0_4.index t 0 * 128 + 1 * o.val = o.val; rw [(index234 t).2.2]; omega

/-! ## The output array -/

/-- The 32 largest entries of each row of the noise are above the number that overwrites taken entries. -/
def Selectable (noise : Vec Ideal S4x1024x1024 .f32) : Prop :=
  ∀ (b : Fin 4) (i : Fin 1024), Above ((-1 : ℝ) : EReal) (fun p => (noise (ix3 b i p) : EReal)) 32

/-- What point `t` writes back is its block of the result, when the entries to take are above -1. -/
theorem flushed_eq (c : Dev nD) (hx : Selectable (m ((c : Thread nD τ).loc main_arg8))) (t : Fin cfg0.N)
    (hf : (cfg0.win 5).flush t = true) :
    (dats m 0 c).flushed 5 t = ((cfg0.win 5).blk t).view.read (Elt Ideal) (resultArr m c) := by
  rw [flushed5_A, out_eq]
  funext j
  rw [View.read_apply]
  obtain ⟨z, r, o, rfl⟩ : ∃ (z : Fin 1) (r : Fin 256) (o : Fin 128), j = (ix3 z r o : S1x256x128.Idx) :=
    ⟨j 0, j 1, j 2, funext fun a => by fin_cases a <;> rfl⟩
  obtain rfl : z = 0 := Subsingleton.elim _ _
  have hemb : ((cfg0.win 5).blk t).view.emb (ix3 0 r o : S1x256x128.Idx) = (ix3 (batch t) (rowOf t r) o : S4x1024x128.Idx) := by
    funext a
    apply Fin.ext
    match a with
    | ⟨0, _⟩ => show win0_5.index t 0 * 1 + 1 * 0 = t.val / 4; rw [(index5 t).1]; omega
    | ⟨1, _⟩ => show win0_5.index t 1 * 256 + 1 * r.val = 256 * (t.val % 4) + r.val; rw [(index5 t).2.1]; omega
    | ⟨2, _⟩ => show win0_5.index t 2 * 128 + 1 * o.val = o.val; rw [(index5 t).2.2]; omega
  rw [hemb]
  refine (out_apply (iblk m c 0 t) (iblk m c 1 t) (iblk m c 2 t) (iblk m c 3 t) (iblk m c 4 t) r o
    (by simp only [noise_apply]; exact hx _ _)).trans ?_
  simp only [noise_apply, table_apply, first_apply, second_apply, shift_apply]
  rfl

/-- The output array after the run holds the result. -/
theorem final (c : Dev nD) (hx : Selectable (m ((c : Thread nD τ).loc main_arg8))) :
    (dats m 0 c).arrAt 5 cfg0.N = resultArr m c :=
  (dats m 0 c).arrAt_eq_of_cover 5 (resultArr m c) (flushed_eq m c hx) fun i => by
    have h0 : (i 0 : Nat) < 4 := (i 0).isLt
    have h1 : (i 1 : Nat) < 1024 := (i 1).isLt
    have h2 : (i 2 : Nat) < 128 := (i 2).isLt
    have hN : cfg0.N = 16 := N_0
    obtain ⟨t, ht⟩ : ∃ t : Fin cfg0.N, t.val = 4 * (i 0 : Nat) + (i 1 : Nat) / 256 := ⟨⟨_, by omega⟩, rfl⟩
    refine ⟨t, flush0_5 t, ?_⟩
    show i ∈ ((View.whole main_v0).slice (win0_5.rect t)).set
    rw [View.set_slice_whole, Rect.mem_set_unit]
    intro a
    match a with
    | ⟨0, _⟩ => show win0_5.index t 0 * 1 ≤ (i 0 : Nat) ∧ (i 0 : Nat) < win0_5.index t 0 * 1 + 1
                rw [(index5 t).1]; omega
    | ⟨1, _⟩ => show win0_5.index t 1 * 256 ≤ (i 1 : Nat) ∧ (i 1 : Nat) < win0_5.index t 1 * 256 + 256
                rw [(index5 t).2.1]; omega
    | ⟨2, _⟩ => show win0_5.index t 2 * 128 ≤ (i 2 : Nat) ∧ (i 2 : Nat) < win0_5.index t 2 * 128 + 128
                rw [(index5 t).2.2]; omega

end Cert.KernelIdeal.Rounds

end
-- ==== Proof.RefOps.lean ====
/-
  Two host operations of the reference read at an index: the selection of the 32 greatest entries of a row, and the
  gathers at pairs (batch, position).
-/
module

public import proofs.«01_k».proof.Proof.Order
public import proofs.«01_k».proof.Proof.Gen.ReferenceIdeal
public import Idealize.ShloMosaic.Lib.Pointwise
public import Idealize.ShloMosaic.PureOps.Ideal.Laws

@[expose] public section

noncomputable section

namespace Cert.ReferenceIdeal.Staged

open Cert.ReferenceIdeal Cert.ReferenceIdeal.Gen Idealize.ShloMosaic
open Cert.Nbhd

/-- A small natural as a signed word. -/
theorem toInt_small (a : ℕ) (ha : a < 2 ^ 31) : (BitVec.ofNat 32 a).toInt = a := by
  rw [BitVec.toInt_eq_toNat_cond, BitVec.toNat_ofNat]; split <;> omega

/-- A row of an array of rows. -/
def row (x : Vec Ideal S4x1024x1024 .f32) (b : Fin 4) (i : Fin 1024) : Fin 1024 → EReal := fun p => x (ix3 b i p)

/-- The position of the `j`-th greatest entry of row `i` of batch `b`. -/
def pick (x : Vec Ideal S4x1024x1024 .f32) (b : Fin 4) (i : Fin 1024) (j : Fin 32) : Fin 1024 :=
  order (row x b i) (j.castLE (by decide))

/-- Replacing the last coordinate of an index. -/
theorem along_last (b : Fin 4) (i j k : Fin 1024) :
    (ix3 b i j : S4x1024x1024.Idx).along (2 : Fin 3) k = ix3 b i k := by
  funext a; fin_cases a <;> rfl

/-- The sort inside the selection compares entries of the row, so its permutation is the row's order. -/
theorem sorted_eq (x : Vec Ideal S4x1024x1024 .f32) (b : Fin 4) (i : Fin 1024) (j : Fin 1024) (y : IVec S4x1024x1024 32) :
    sortedFrom (fun k k' : Fin 1024 => (fun l r : Ideal .f32 × BitVec 32 => FloatOps.cmpfTotal .gt l.1 r.1)
        (x ((ix3 b i j : S4x1024x1024.Idx).along (2 : Fin 3) k), y ((ix3 b i j : S4x1024x1024.Idx).along (2 : Fin 3) k))
        (x ((ix3 b i j : S4x1024x1024.Idx).along (2 : Fin 3) k'), y ((ix3 b i j : S4x1024x1024.Idx).along (2 : Fin 3) k')) == 1#1)
      = order (row x b i) := by
  unfold order
  congr 1
  funext k k'
  rw [along_last, along_last]
  show (BitVec.ofBool (decide ((x (ix3 b i k') : EReal) < x (ix3 b i k))) == 1#1) = decide _
  by_cases hlt : (x (ix3 b i k') : EReal) < x (ix3 b i k)
  · rw [decide_eq_true hlt, decide_eq_true (show row x b i k' < row x b i k from hlt)]; rfl
  · rw [decide_eq_false hlt, decide_eq_false (show ¬row x b i k' < row x b i k from hlt)]; rfl

/-- The sort of a row with a companion array: the row in its order. -/
theorem sort_fst (x : FVec Ideal S4x1024x1024 .f32) (y : IVec S4x1024x1024 32) (b : Fin 4) (i j : Fin 1024) :
    (Host.sort2 S4x1024x1024 2 (fun l r => FloatOps.cmpfTotal (F := Ideal) (φ := .f32) .gt l.1 r.1) x y).1 (ix3 b i j)
      = x (ix3 b i (order (row x b i) j)) := by
  rw [← sorted_eq x b i j y]
  exact congrArg x (along_last b i j _)

/-- The sort of a row with a companion array: the companion in the row's order. -/
theorem sort_snd (x : FVec Ideal S4x1024x1024 .f32) (y : IVec S4x1024x1024 32) (b : Fin 4) (i j : Fin 1024) :
    (Host.sort2 S4x1024x1024 2 (fun l r => FloatOps.cmpfTotal (F := Ideal) (φ := .f32) .gt l.1 r.1) x y).2 (ix3 b i j)
      = y (ix3 b i (order (row x b i) j)) := by
  rw [← sorted_eq x b i j y]
  exact congrArg y (along_last b i j _)

/-- The first 32 entries of a sorted row are cut out at the same positions. -/
theorem cut_apply {α : Type} (x : S4x1024x1024.Idx → α) (h : S4x1024x1024.Slices (fun _ => 0) S4x1024x32)
    (b : Fin 4) (i : Fin 1024) (j : Fin 32) :
    extractStridedSlice S4x1024x32 (fun _ => 0) x h (ix3 b i j) = x (ix3 b i (j.castLE (by decide))) := by
  unfold extractStridedSlice
  congr 1
  funext a
  apply Fin.ext
  match a with
  | ⟨0, _⟩ => exact Nat.zero_add _
  | ⟨1, _⟩ => exact Nat.zero_add _
  | ⟨2, _⟩ => exact Nat.zero_add _

/-- The `j`-th of the 32 greatest entries of a row. -/
theorem topK_values (x : FVec Ideal S4x1024x1024 .f32) (h : S4x1024x1024.Slices (fun _ => 0) S4x1024x32)
    (b : Fin 4) (i : Fin 1024) (j : Fin 32) :
    (Host.topK S4x1024x32 2 (FloatOps.cmpfTotal (F := Ideal) (φ := .f32) .gt) x h).1 (ix3 b i j) = x (ix3 b i (pick x b i j)) := by
  unfold Host.topK
  dsimp only
  rw [cut_apply, sort_fst]
  rfl

/-- The position of the `j`-th of the 32 greatest entries of a row. -/
theorem topK_positions (x : FVec Ideal S4x1024x1024 .f32) (h : S4x1024x1024.Slices (fun _ => 0) S4x1024x32)
    (b : Fin 4) (i : Fin 1024) (j : Fin 32) :
    (Host.topK S4x1024x32 2 (FloatOps.cmpfTotal (F := Ideal) (φ := .f32) .gt) x h).2 (ix3 b i j)
      = BitVec.ofNat 32 (pick x b i j).val := by
  unfold Host.topK
  dsimp only
  rw [cut_apply, sort_snd]
  rfl

/-- The rows gathered at pairs of a batch and a position. -/
theorem gather_rows (x : Vec Ideal S4x1024x128 .f32) (idx : IVec S4x1024x32x2 32) (b : Fin 4) (i : Fin 1024) (j : Fin 32)
    (e : Fin 128) (q : Fin 1024) (h0 : idx (ix4 b i j 0) = BitVec.ofNat 32 b.val)
    (h1 : idx (ix4 b i j 1) = BitVec.ofNat 32 q.val) :
    Host.gather gather_S4x1024x128_S4x1024x32x2_S4x1024x32x128_3_01_n_n_01_3_11128 x idx (ix4 b i j e) = x (ix3 b q e) := by
  have s0 : gather_S4x1024x128_S4x1024x32x2_S4x1024x32x128_3_01_n_n_01_3_11128.siIdx (ix4 b i j e) ⟨0, by decide⟩ = ix4 b i j 0 := by
    funext a; fin_cases a <;> rfl
  have s1 : gather_S4x1024x128_S4x1024x32x2_S4x1024x32x128_3_01_n_n_01_3_11128.siIdx (ix4 b i j e) ⟨1, by decide⟩ = ix4 b i j 1 := by
    funext a; fin_cases a <;> rfl
  unfold Host.gather
  congr 1
  funext a
  apply Fin.ext
  match a with
  | ⟨0, _⟩ =>
    show min (idx (gather_S4x1024x128_S4x1024x32x2_S4x1024x32x128_3_01_n_n_01_3_11128.siIdx (ix4 b i j e) ⟨0, by decide⟩)).toInt.toNat (4 - 1) + 0 + 0 = b.val
    rw [s0, h0, toInt_small _ (by omega)]; have := b.isLt; omega
  | ⟨1, _⟩ =>
    show min (idx (gather_S4x1024x128_S4x1024x32x2_S4x1024x32x128_3_01_n_n_01_3_11128.siIdx (ix4 b i j e) ⟨1, by decide⟩)).toInt.toNat (1024 - 1) + 0 + 0 = q.val
    rw [s1, h1, toInt_small _ (by omega)]; have := q.isLt; omega
  | ⟨2, _⟩ =>
    show 0 + 0 + e.val = e.val
    omega

/-- The mask gathered at pairs of a batch and a position. -/
theorem gather_mask (x : IVec S4x1024 1) (idx : IVec S4x1024x32x2 32) (b : Fin 4) (i : Fin 1024) (j : Fin 32) (q : Fin 1024)
    (h0 : idx (ix4 b i j 0) = BitVec.ofNat 32 b.val) (h1 : idx (ix4 b i j 1) = BitVec.ofNat 32 q.val) :
    Host.gather gather_S4x1024_S4x1024x32x2_S4x1024x32_n_01_n_n_01_3_11 x idx (ix3 b i j) = x (ix2 b q) := by
  have s0 : gather_S4x1024_S4x1024x32x2_S4x1024x32_n_01_n_n_01_3_11.siIdx (ix3 b i j) ⟨0, by decide⟩ = ix4 b i j 0 := by
    funext a; fin_cases a <;> rfl
  have s1 : gather_S4x1024_S4x1024x32x2_S4x1024x32_n_01_n_n_01_3_11.siIdx (ix3 b i j) ⟨1, by decide⟩ = ix4 b i j 1 := by
    funext a; fin_cases a <;> rfl
  unfold Host.gather
  congr 1
  funext a
  apply Fin.ext
  match a with
  | ⟨0, _⟩ =>
    show min (idx (gather_S4x1024_S4x1024x32x2_S4x1024x32_n_01_n_n_01_3_11.siIdx (ix3 b i j) ⟨0, by decide⟩)).toInt.toNat (4 - 1) + 0 + 0 = b.val
    rw [s0, h0, toInt_small _ (by omega)]; have := b.isLt; omega
  | ⟨1, _⟩ =>
    show min (idx (gather_S4x1024_S4x1024x32x2_S4x1024x32_n_01_n_n_01_3_11.siIdx (ix3 b i j) ⟨1, by decide⟩)).toInt.toNat (1024 - 1) + 0 + 0 = q.val
    rw [s1, h1, toInt_small _ (by omega)]; have := q.isLt; omega

end Cert.ReferenceIdeal.Staged

end
-- ==== Proof.RefStages.lean ====
/-
  The reference's result written in named stages: which entries count as near, their scores, the start indices of the
  gathers, the masked similarities, the softmax and the projections.
-/
module

public import proofs.«01_k».proof.Proof.RefOps
public import proofs.«01_k».proof.Proof.Gen.ReferenceIdeal.Run

@[expose] public section

noncomputable section

namespace Cert.ReferenceIdeal.Staged

open Cert.ReferenceIdeal Cert.ReferenceIdeal.Gen Idealize.ShloMosaic Idealize.ShloMosaic.TcCoe Idealize.SL.Sem
open Cert.Nbhd

/-- The weighted sum of the rotation and translation lengths of each pair. -/
def distance (pairs : FVec Ideal S4x1024x1024x6 .f32) : FVec Ideal S4x1024x1024 .f32 :=
  let u := extractStridedSlice S4x1024x1024x3 ![0, 0, 0, 0] pairs slices_S4x1024x1024x6_S4x1024x1024x3_0_0_0_0
  let v := extractStridedSlice S4x1024x1024x3 ![0, 0, 0, 3] pairs slices_S4x1024x1024x6_S4x1024x1024x3_0_0_0_3
  addf (mulf (broadcastInDim S4x1024x1024 ![] bcast_S_S4x1024x1024 (constant S_ .f32 0x3E4CCCCD#32)) (Host.sqrt (Host.reduceAdd (mulf u u) (constant S_ .f32 0x00000000#32) reducesTo_S4x1024x1024x3_S4x1024x1024_d3 h_S_)))
    (mulf (broadcastInDim S4x1024x1024 ![] bcast_S_S4x1024x1024 (constant S_ .f32 0x3F4CCCCD#32)) (Host.sqrt (Host.reduceAdd (mulf v v) (constant S_ .f32 0x00000000#32) reducesTo_S4x1024x1024x3_S4x1024x1024_d3 h_S_)))

/-- The token mask over the second token of a pair. -/
def across (mask : IVec S4x1024 1) : IVec S4x1024x1024 1 :=
  broadcastInDim S4x1024x1024 ![0, 1, 2] bcast_S4x1x1024_S4x1024x1024_0_1_2 (broadcastInDim S4x1x1024 ![0, 2] bcast_S4x1024_S4x1x1024_0_2 mask)

/-- Which pairs count as near, from the distances and the token mask. -/
def near (dist : FVec Ideal S4x1024x1024 .f32) (mask : IVec S4x1024 1) : IVec S4x1024x1024 1 :=
  andi (andi (cmpf .olt (select (across mask) (broadcastInDim S4x1024x1024 ![] bcast_S_S4x1024x1024 (id (constant S_ .f32 0x4CBEBC20#32))) dist) (broadcastInDim S4x1024x1024 ![] bcast_S_S4x1024x1024 (constant S_ .f32 0x40000000#32))) (across mask))
    (broadcastInDim S4x1024x1024 ![0, 1, 2] bcast_S4x1024x1_S4x1024x1024_0_1_2 (broadcastInDim S4x1024x1 ![0, 1] bcast_S4x1024_S4x1024x1_0_1 mask))

/-- The scores the selection ranks. -/
def scores (n : IVec S4x1024x1024 1) (noise : FVec Ideal S4x1024x1024 .f32) : FVec Ideal S4x1024x1024 .f32 :=
  addf (uitofp .f32 n) noise

/-- The values and positions of the 32 greatest scores of each row. -/
def top (s : FVec Ideal S4x1024x1024 .f32) : FVec Ideal S4x1024x32 .f32 × IVec S4x1024x32 32 :=
  Host.topK S4x1024x32 2 (FloatOps.cmpfTotal (F := Ideal) (φ := .f32) .gt) s sliceFits_S4x1024x1024_S4x1024x32

/-- The batch numbers. -/
def batches : IVec S4x1x1 32 := broadcastInDim S4x1x1 ![0] bcast_S4_S4x1x1_0 (iotaInDim S4 32 0)

/-- The pairs of a batch and a position the gathers read at. -/
def starts (ind : IVec S4x1024x32 32) : IVec S4x1024x32x2 32 :=
  concatenate S4x1024x32x2 3 [⟨S4x1024x32x1, (broadcastInDim S4x1024x32x1 ![0, 1, 2] bcast_S4x1024x32_S4x1024x32x1_0_1_2 (broadcastInDim S4x1024x32 ![0, 1, 2] bcast_S4x1x1_S4x1024x32_0_1_2 (select (cmpi .slt batches (broadcastInDim S4x1x1 ![] bcast_S_S4x1x1 (constantI S_ 32 0#32))) (addi batches (broadcastInDim S4x1x1 ![] bcast_S_S4x1x1 (constantI S_ 32 4#32))) batches)))⟩,
    ⟨S4x1024x32x1, (broadcastInDim S4x1024x32x1 ![0, 1, 2] bcast_S4x1024x32_S4x1024x32x1_0_1_2 (select (cmpi .slt ind (broadcastInDim S4x1024x32 ![] bcast_S_S4x1024x32 (constantI S_ 32 0#32))) (addi ind (broadcastInDim S4x1024x32 ![] bcast_S_S4x1024x32 (constantI S_ 32 1024#32))) ind))⟩] concatenates_S4x1024x32x1_S4x1024x32x1_S4x1024x32x2_d3

/-- The 32 rows of the table that a row selects. -/
def picked (a : FVec Ideal S4x1024x128 .f32) (st : IVec S4x1024x32x2 32) : FVec Ideal S4x1024x32x128 .f32 :=
  Host.gather gather_S4x1024x128_S4x1024x32x2_S4x1024x32x128_3_01_n_n_01_3_11128 a st

/-- The selected rows sent through a matrix, split into heads. -/
def heads (r : FVec Ideal S4x1024x32x128 .f32) (w : FVec Ideal S128x512 .f32) : FVec Ideal S4x8x1024x32x64 .f32 :=
  transpose S4x8x1024x32x64 [0, 3, 1, 2, 4] (shapeCast _ (Host.dotGeneral dot_S4x1024x32x128_S128x512_S4x1024x32x512_3_0_012_1_n_n none r w) shapeCasts_S4x1024x32x512_S4x1024x32x8x64) transposes_S4x1024x32x8x64_S4x8x1024x32x64_0_3_1_2_4

/-- The products of each row's query with its selected keys. -/
def products (a : FVec Ideal S4x1024x128 .f32) (wq : FVec Ideal S128x512 .f32) (k : FVec Ideal S4x8x1024x32x64 .f32) :
    FVec Ideal S4x8x1024x32 .f32 :=
  Host.dotGeneral dot_S4x8x1024x64_S4x8x1024x32x64_S4x8x1024x32_3_4_n_3_012_012 none (transpose S4x8x1024x64 [0, 2, 1, 3] (shapeCast _ (Host.dotGeneral dot_S4x1024x128_S128x512_S4x1024x512_2_0_01_1_n_n none a wq) shapeCasts_S4x1024x512_S4x1024x8x64) transposes_S4x1024x8x64_S4x8x1024x64_0_2_1_3) k

/-- The similarities, with those outside the mask or the ball replaced by the least finite number. -/
def masked (g : IVec S4x1024x32 1) (vals : FVec Ideal S4x1024x32 .f32) (p : FVec Ideal S4x8x1024x32 .f32) :
    FVec Ideal S4x8x1024x32 .f32 :=
  select (broadcastInDim S4x8x1024x32 ![0, 1, 2, 3] bcast_S4x1x1024x32_S4x8x1024x32_0_1_2_3 (broadcastInDim S4x1x1024x32 ![0, 2, 3] bcast_S4x1024x32_S4x1x1024x32_0_2_3 (andi g (cmpf .ogt vals (broadcastInDim S4x1024x32 ![] bcast_S_S4x1024x32 (constant S_ .f32 0x3F800000#32))))))
    (mulf p (broadcastInDim S4x8x1024x32 ![] bcast_S_S4x8x1024x32 (constant S_ .f32 0x3E000000#32))) (broadcastInDim S4x8x1024x32 ![] bcast_S_S4x8x1024x32 (constant S_ .f32 0xFF7FFFFF#32))

/-- The exponentials of the similarities, each less the greatest of its row. -/
def exps (s : FVec Ideal S4x8x1024x32 .f32) : FVec Ideal S4x8x1024x32 .f32 :=
  Host.exp (subf s (broadcastInDim S4x8x1024x32 ![0, 1, 2, 3] bcast_S4x8x1024x1_S4x8x1024x32_0_1_2_3 (broadcastInDim S4x8x1024x1 ![0, 1, 2] bcast_S4x8x1024_S4x8x1024x1_0_1_2 (maximumf (broadcastInDim S4x8x1024 ![] bcast_S_S4x8x1024 (constant S_ .f32 0xFF800000#32)) (Host.reduce FloatOps.maximumf s (constant S_ .f32 0xFF800000#32) reducesTo_S4x8x1024x32_S4x8x1024_d3 h_S_)))))

/-- The exponentials divided by the sum of their row. -/
def normalized (e : FVec Ideal S4x8x1024x32 .f32) : FVec Ideal S4x8x1024x32 .f32 :=
  Host.divf e (broadcastInDim S4x8x1024x32 ![0, 1, 2, 3] bcast_S4x8x1024x1_S4x8x1024x32_0_1_2_3 (broadcastInDim S4x8x1024x1 ![0, 1, 2] bcast_S4x8x1024_S4x8x1024x1_0_1_2 (Host.reduceAdd e (constant S_ .f32 0x00000000#32) reducesTo_S4x8x1024x32_S4x8x1024_d3 h_S_)))

/-- The weighted sums of the values, heads joined, sent through the second matrix and shifted. -/
def combined (w : FVec Ideal S4x8x1024x32 .f32) (v : FVec Ideal S4x8x1024x32x64 .f32) (wo : FVec Ideal S512x128 .f32)
    (bo : FVec Ideal S128 .f32) : FVec Ideal S4x1024x128 .f32 :=
  addf (Host.dotGeneral dot_S4x1024x512_S512x128_S4x1024x128_2_0_01_1_n_n none (shapeCast _ (transpose S4x1024x8x64 [0, 2, 1, 3] (Host.dotGeneral dot_S4x8x1024x32_S4x8x1024x32x64_S4x8x1024x64_3_3_n_4_012_012 none w v) transposes_S4x8x1024x64_S4x1024x8x64_0_2_1_3) shapeCasts_S4x1024x8x64_S4x1024x512) wo)
    (broadcastInDim S4x1024x128 ![0, 1, 2] bcast_S1x1x128_S4x1024x128_0_1_2 (broadcastInDim S1x1x128 ![2] bcast_S128_S1x1x128_2 bo))

/-- The reference's second result from the top scores of each row and the inputs. -/
def fromTop (t : FVec Ideal S4x1024x32 .f32 × IVec S4x1024x32 32) (a : FVec Ideal S4x1024x128 .f32) (mask : IVec S4x1024 1)
    (wq wk wv : FVec Ideal S128x512 .f32) (wo : FVec Ideal S512x128 .f32) (bo : FVec Ideal S128 .f32) :
    FVec Ideal S4x1024x128 .f32 :=
  combined (normalized (exps (masked (Host.gather gather_S4x1024_S4x1024x32x2_S4x1024x32_n_01_n_n_01_3_11 mask (starts t.2)) t.1
    (products a wq (heads (picked a (starts t.2)) wk))))) (heads (picked a (starts t.2)) wv) wo bo

set_option maxRecDepth 8192 in
/-- The reference's second result is the stages in turn. -/
theorem res_eq (m : (ℓ : Loc nD τ sig) → Buf (Elt Ideal) ℓ) (c : Dev nD) :
    Value.res_main_v89 m c
      = fromTop (top (scores (near (distance (m ((c.tc : Thread nD τ).loc main_arg0))) (m ((c.tc : Thread nD τ).loc main_arg2)))
          (m ((c.tc : Thread nD τ).loc main_arg8)))) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) := by
  unfold Value.res_main_v89
  rfl

end Cert.ReferenceIdeal.Staged

end
-- ==== Proof.RefValue.lean ====
/-
  The reference's second result, element by element, when the noise is at most 1 at valid tokens: no pair is near, so the
  noise alone ranks the positions; no similarity is kept, so every weight is 1/32.
-/
module

public import proofs.«01_k».proof.Proof.RefStages

@[expose] public section

noncomputable section

namespace Cert.ReferenceIdeal.Staged

open Cert.ReferenceIdeal Cert.ReferenceIdeal.Gen Idealize.ShloMosaic
open Cert.Nbhd

/-- The distance a masked pair is given. -/
theorem far_eq : Ideal.ofBits .f32 0x4CBEBC20#32 = ((100000000 : ℝ) : EReal) := by
  simp [Ideal.ofBits, Ideal.ieee]
  rw [← EReal.coe_pow, ← EReal.coe_mul]; norm_num

/-- The radius of the ball. -/
theorem radius_eq : Ideal.ofBits .f32 0x40000000#32 = ((2 : ℝ) : EReal) := by
  simp [Ideal.ofBits, Ideal.ieee]
  rw [← EReal.coe_mul]; norm_num

/-- The value a masked similarity is given is a real. -/
theorem fill_real : ∃ y : ℝ, Ideal.ofBits .f32 0xFF7FFFFF#32 = (y : EReal) := by
  simp only [Ideal.ofBits, Ideal.ieee]
  exact ⟨_, rfl⟩

/-- A word of one bit is 0 or 1. -/
theorem bit_cases : ∀ x : BitVec 1, x = 0#1 ∨ x = 1#1 := by decide

/-- No pair is near: where the second token is valid the pair has been given a distance outside the ball, and elsewhere
    the mask excludes it. -/
theorem near_apply (dist : FVec Ideal S4x1024x1024 .f32) (mask : IVec S4x1024 1) (b : Fin 4)
    (i p : Fin 1024) : near dist mask (ix3 b i p) = 0#1 := by
  pointwise [near, across]
  have h : ¬ Ideal.ofBits .f32 0x4CBEBC20#32 < Ideal.ofBits .f32 0x40000000#32 := by
    rw [far_eq, radius_eq, EReal.coe_lt_coe_iff]; norm_num
  have hz : ∀ x : BitVec 1, IntOp.andi (IntOp.andi x 0#1) (mask (ix2 b i)) = 0#1 := fun x => by
    generalize mask (ix2 b i) = y; revert x y; decide
  rcases bit_cases (mask (ix2 b p)) with hm | hm
  · rw [hm]; exact hz _
  · rw [hm]
    show IntOp.andi (IntOp.andi (BitVec.ofBool (decide (Ideal.ofBits .f32 0x4CBEBC20#32 < Ideal.ofBits .f32 0x40000000#32))) 1#1)
      (mask (ix2 b i)) = 0#1
    rw [decide_eq_false h]
    exact hz 1#1

/-- Where no pair is near the score is the noise. -/
theorem scores_apply (n : IVec S4x1024x1024 1) (noise : FVec Ideal S4x1024x1024 .f32) (b : Fin 4)
    (i p : Fin 1024) (h : n (ix3 b i p) = 0#1) : (scores n noise (ix3 b i p) : EReal) = noise (ix3 b i p) := by
  pointwise [scores]
  rw [h]
  have hz : (FloatOps.uitofp (F := Ideal) .f32 (0#1) : EReal) = 0 := by
    show (((0#1 : BitVec 1).toNat : ℝ) : EReal) = 0
    simp
  rw [hz, zero_add]

/-- A small natural is not below zero, so no extent is added to it. -/
theorem keep_index (a : ℕ) (ha : a < 2 ^ 31) (y : BitVec 32) :
    Scalar.select (IntOp.cmpi .slt (BitVec.ofNat 32 a) 0#32) y (BitVec.ofNat 32 a) = BitVec.ofNat 32 a := by
  have h : IntOp.cmpi .slt (BitVec.ofNat 32 a) 0#32 = 0#1 := by
    have hn : BitVec.slt (BitVec.ofNat 32 a) 0#32 = false := by
      rw [Bool.eq_false_iff, ne_eq, BitVec.slt_iff_toInt_lt, toInt_small a ha]
      simp
    show BitVec.ofBool (BitVec.slt (BitVec.ofNat 32 a) 0#32) = 0#1
    rw [hn]; rfl
  rw [h]; rfl

/-- The first component of a start index is the batch. -/
theorem starts_batch (ind : IVec S4x1024x32 32) (b : Fin 4) (i : Fin 1024) (j : Fin 32) :
    starts ind (ix4 b i j 0) = BitVec.ofNat 32 b.val := by
  pointwise [starts, batches]
  exact keep_index b.val (by have := b.isLt; omega) _

/-- The second component of a start index is the selected position. -/
theorem starts_position (ind : IVec S4x1024x32 32) (b : Fin 4) (i : Fin 1024) (j : Fin 32) (q : Fin 1024)
    (h : ind (ix3 b i j) = BitVec.ofNat 32 q.val) :
    starts ind (ix4 b i j 1) = BitVec.ofNat 32 q.val := by
  pointwise [starts, batches]
  rw [h]
  exact keep_index q.val (by have := q.isLt; omega) _

/-- A similarity whose position is masked out or whose score is at most 1 is replaced. -/
theorem masked_apply (g : IVec S4x1024x32 1) (vals : FVec Ideal S4x1024x32 .f32) (p : FVec Ideal S4x8x1024x32 .f32)
    (b : Fin 4) (h : Fin 8) (i : Fin 1024) (j : Fin 32) (hv : g (ix3 b i j) = 0#1 ∨ (vals (ix3 b i j) : EReal) ≤ 1) :
    masked g vals p (ix4 b h i j) = Ideal.ofBits .f32 0xFF7FFFFF#32 := by
  pointwise [masked]
  rcases hv with hv | hv
  · have hz : ∀ x : BitVec 1, IntOp.andi 0#1 x = 0#1 := by decide
    rw [hv, hz]; rfl
  · rw [decide_eq_false (not_lt.mpr hv)]
    have hz : ∀ x : BitVec 1, IntOp.andi x (BitVec.ofBool false) = 0#1 := by decide
    rw [hz]; rfl

/-- Where every similarity of a row is replaced, every exponential is 1. -/
theorem exps_apply (s : FVec Ideal S4x8x1024x32 .f32)
    (b : Fin 4) (h : Fin 8) (i : Fin 1024) (j : Fin 32) (hv : ∀ j, (s (ix4 b h i j) : EReal) = Ideal.ofBits .f32 0xFF7FFFFF#32) :
    exps s (ix4 b h i j) = (1 : EReal) := by
  pointwise [exps]
  simp only [hv]
  obtain ⟨y, hy⟩ := fill_real
  have hbot : Ideal.ofBits .f32 0xFF800000#32 = ⊥ := by simp [Ideal.ofBits, Ideal.ieee]
  have hfold : Finset.fold max (⊥ : EReal) (fun _ : Fin 32 => (y : EReal)) Finset.univ = y :=
    le_antisymm ((Finset.fold_max_le _).mpr ⟨bot_le, fun _ _ => le_rfl⟩)
      ((Finset.le_fold_max _).mpr (Or.inr ⟨0, Finset.mem_univ _, le_rfl⟩))
  rw [hy, hbot, hfold, max_eq_right bot_le, ← EReal.coe_sub, sub_self]
  show ((Real.exp 0 : ℝ) : EReal) = 1
  rw [Real.exp_zero]; rfl

/-- Where every exponential of a row is 1, every weight is 1/32. -/
theorem normalized_apply (s : FVec Ideal S4x8x1024x32 .f32)
    (b : Fin 4) (h : Fin 8) (i : Fin 1024) (j : Fin 32) (hv : ∀ j, (s (ix4 b h i j) : EReal) = 1) :
    normalized s (ix4 b h i j) = ((1 / 32 : ℝ) : EReal) := by
  pointwise [normalized]
  simp only [hv]
  have hsum : (∑ _x : Fin 32, (1 : EReal)) = ((32 : ℝ) : EReal) := by
    rw [Finset.sum_const, Finset.card_univ, Fintype.card_fin, nsmul_one, ← EReal.coe_natCast]; norm_num
  rw [hsum, Ideal.div_coe (by norm_num), one_mul]

/-- The selected rows through a matrix, at a head and a coordinate in it. -/
theorem heads_apply (r : FVec Ideal S4x1024x32x128 .f32) (w : FVec Ideal S128x512 .f32) (b : Fin 4) (h : Fin 8)
    (i : Fin 1024) (j : Fin 32) (d : Fin 64) :
    heads r w (ix5 b h i j d) = (∑ e : Fin 128, (r (ix4 b i j e) : EReal)
      * w (ix2 e ⟨h.val * 64 + d.val, by have := h.isLt; have := d.isLt; omega⟩) : EReal) := by
  pointwise [heads]

/-- The result from the weights and the values. -/
theorem combined_apply (w : FVec Ideal S4x8x1024x32 .f32) (v : FVec Ideal S4x8x1024x32x64 .f32) (wo : FVec Ideal S512x128 .f32)
    (bo : FVec Ideal S128 .f32) (b : Fin 4) (i : Fin 1024) (o : Fin 128) :
    combined w v wo bo (ix3 b i o) = ((∑ x : Fin 512, (∑ j : Fin 32,
        (w (ix4 b ⟨x.val / 64, by have := x.isLt; omega⟩ i j) : EReal)
          * v (ix5 b ⟨x.val / 64, by have := x.isLt; omega⟩ i j ⟨x.val % 64, by omega⟩)) * wo (ix2 x o)) + bo (ix1 o) : EReal) := by
  pointwise [combined]

end Cert.ReferenceIdeal.Staged

end
-- ==== Proof.RefArray.lean ====
/-
  The reference's second result at an index: every selected row is sent through the first matrix, the 32 results are
  averaged, and the average goes through the second matrix.
-/
module

public import proofs.«01_k».proof.Proof.RefValue

@[expose] public section

noncomputable section

namespace Cert.ReferenceIdeal.Staged

open Cert.ReferenceIdeal Cert.ReferenceIdeal.Gen Idealize.ShloMosaic Idealize.ShloMosaic.TcCoe Idealize.SL.Sem
open Cert.Nbhd

/-- The selected rows are the table's rows at the positions that come first in the order of the scores. -/
theorem picked_apply (x : FVec Ideal S4x1024x1024 .f32) (a : FVec Ideal S4x1024x128 .f32) (b : Fin 4) (i : Fin 1024)
    (j : Fin 32) (e : Fin 128) : picked a (starts (top x).2) (ix4 b i j e) = a (ix3 b (pick x b i j) e) :=
  gather_rows a _ b i j e _ (starts_batch _ b i j) (starts_position _ b i j _ (topK_positions x _ b i j))

/-- The selected positions' entries of the mask. -/
theorem picked_mask (x : FVec Ideal S4x1024x1024 .f32) (mask : IVec S4x1024 1) (b : Fin 4) (i : Fin 1024) (j : Fin 32) :
    Host.gather gather_S4x1024_S4x1024x32x2_S4x1024x32_n_01_n_n_01_3_11 mask (starts (top x).2) (ix3 b i j)
      = mask (ix2 b (pick x b i j)) :=
  gather_mask mask _ b i j _ (starts_batch _ b i j) (starts_position _ b i j _ (topK_positions x _ b i j))

/-- The result at an index, from scores that are at most 1 at valid tokens. -/
theorem fromTop_apply (x : FVec Ideal S4x1024x1024 .f32) (a : FVec Ideal S4x1024x128 .f32) (mask : IVec S4x1024 1)
    (wq wk wv : FVec Ideal S128x512 .f32) (wo : FVec Ideal S512x128 .f32) (bo : FVec Ideal S128 .f32)
    (b : Fin 4) (i : Fin 1024) (o : Fin 128) (hx : ∀ p, mask (ix2 b p) = 0#1 ∨ (x (ix3 b i p) : EReal) ≤ 1) :
    fromTop (top x) a mask wq wk wv wo bo (ix3 b i o)
      = ((∑ d : Fin 512, (∑ j : Fin 32, ((1 / 32 : ℝ) : EReal)
          * ∑ e : Fin 128, (a (ix3 b (pick x b i j) e) : EReal) * wv (ix2 e d)) * wo (ix2 d o)) + bo (ix1 o) : EReal) := by
  unfold fromTop
  rw [combined_apply]
  refine congrArg (· + _) (Finset.sum_congr rfl fun d _ => congrArg (· * _) (Finset.sum_congr rfl fun j _ => ?_))
  rw [normalized_apply _ _ _ _ _ (fun j => exps_apply _ _ _ _ _ fun j => masked_apply _ _ _ _ _ _ _ (by
    rw [picked_mask, show (top x).1 (ix3 b i j) = x (ix3 b i (pick x b i j)) from topK_values x _ b i j]; exact hx _)), heads_apply]
  have hd : (⟨d.val / 64 * 64 + d.val % 64, by have := d.isLt; omega⟩ : Fin 512) = d := Fin.ext (by dsimp only; omega)
  simp only [hd, picked_apply]

/-- The reference's second result from its inputs. -/
def whole (pairs : FVec Ideal S4x1024x1024x6 .f32) (a : FVec Ideal S4x1024x128 .f32) (mask : IVec S4x1024 1)
    (wq wk wv : FVec Ideal S128x512 .f32) (wo : FVec Ideal S512x128 .f32) (bo : FVec Ideal S128 .f32)
    (noise : FVec Ideal S4x1024x1024 .f32) : FVec Ideal S4x1024x128 .f32 :=
  fromTop (top (scores (near (distance pairs) mask) noise)) a mask wq wk wv wo bo

/-- The reference's second result at an index, when the noise is at most 1 at valid tokens. -/
theorem whole_apply (pairs : FVec Ideal S4x1024x1024x6 .f32) (a : FVec Ideal S4x1024x128 .f32) (mask : IVec S4x1024 1)
    (wq wk wv : FVec Ideal S128x512 .f32) (wo : FVec Ideal S512x128 .f32) (bo : FVec Ideal S128 .f32)
    (noise : FVec Ideal S4x1024x1024 .f32) (b : Fin 4) (i : Fin 1024) (o : Fin 128)
    (hn : ∀ p, mask (ix2 b p) = 0#1 ∨ (noise (ix3 b i p) : EReal) ≤ 1) :
    whole pairs a mask wq wk wv wo bo noise (ix3 b i o)
      = ((∑ d : Fin 512, (∑ j : Fin 32, ((1 / 32 : ℝ) : EReal)
          * ∑ e : Fin 128, (a (ix3 b (order (fun p => (noise (ix3 b i p) : EReal)) (j.castLE (by decide))) e) : EReal)
            * wv (ix2 e d)) * wo (ix2 d o)) + bo (ix1 o) : EReal) := by
  have hs : ∀ p, (scores (near (distance pairs) mask) noise (ix3 b i p) : EReal) = noise (ix3 b i p) :=
    fun p => scores_apply _ _ b i p (near_apply _ _ b i p)
  have hrow := funext hs
  unfold whole
  rw [fromTop_apply _ _ _ _ _ _ _ _ _ _ _ fun p => by rw [hs]; exact hn _]
  unfold pick row
  rw [hrow]

end Cert.ReferenceIdeal.Staged

end
-- ==== Proof.Pre.lean ====
/-
  What the precondition says of the kernel's inputs, entry by entry.
-/
module

public import proofs.«01_k».proof.Defs
public import proofs.«01_k».proof.Proof.Gen.Pre_admitted
public import proofs.«01_k».proof.Proof.RefOps
public import Idealize.ShloMosaic.Lib.ReduceAll
public import Idealize.ShloMosaic.Lib.Affine

@[expose] public section

noncomputable section

namespace Cert.Inputs

open Idealize.ShloMosaic Idealize.ShloMosaic.TcCoe Idealize.SL.Sem
open Cert.Nbhd

/-- The word of -1. -/
theorem minus_one : Ideal.ofBits .f32 0xBF800000#32 = ((-1 : ℝ) : EReal) := by
  simp [Ideal.ofBits, Ideal.ieee]
  rw [← EReal.coe_mul]; norm_num

/-- The word of 1. -/
theorem one : Ideal.ofBits .f32 0x3F800000#32 = ((1 : ℝ) : EReal) := by
  simp [Ideal.ofBits, Ideal.ieee]
  rw [← EReal.coe_mul]; norm_num

/-- The word of infinity. -/
theorem infinity : Ideal.ofBits .f32 0x7F800000#32 = ⊤ := by
  simp [Ideal.ofBits, Ideal.ieee]

/-- A truth value whose word is 1 is true. -/
theorem of_ofBool {b : Bool} (h : BitVec.ofBool b = 1#1) : b = true := by
  revert h; cases b <;> decide

/-- An extended real whose absolute value is below infinity is a real. -/
theorem real_of_abs_lt (x : EReal) (h : max x (-x) < ⊤) : ∃ y : ℝ, x = y := by
  induction x using EReal.rec with
  | bot => simp at h
  | top => simp at h
  | coe y => exact ⟨y, rfl⟩

/-- What the precondition gives: the noise is at most 1 at valid tokens, the 32 largest entries of each of its rows are
    above -1, and the rows and the first matrix hold reals. -/
structure Admitted (mask : IVec Cert.Pre_admitted.S4x1024 1) (noise : Vec Ideal Cert.Pre_admitted.S4x1024x1024 .f32)
    (a : Vec Ideal Cert.Pre_admitted.S4x1024x128 .f32) (wv : Vec Ideal Cert.Pre_admitted.S128x512 .f32) : Prop where
  below : ∀ (b : Fin 4) (i p : Fin 1024), mask (ix2 b p) = 0#1 ∨ (noise (ix3 b i p) : EReal) ≤ ((1 : ℝ) : EReal)
  above : ∀ (b : Fin 4) (i : Fin 1024), Above ((-1 : ℝ) : EReal) (fun p => (noise (ix3 b i p) : EReal)) 32
  rows : ∀ i, ∃ y : ℝ, (a i : EReal) = y
  first : ∀ i, ∃ y : ℝ, (wv i : EReal) = y

/-- The precondition's result has one index. -/
theorem one_index : Subsingleton Cert.Pre_admitted.S_.Idx := ⟨fun i j => funext fun a => a.elim0⟩

/-- An entry whose absolute value compares below infinity is a real. -/
theorem real_of_cmp (x : EReal) (h : Ideal.cmp .olt (max x (-x)) (Ideal.ofBits .f32 0x7F800000#32) = 1#1) :
    ∃ y : ℝ, x = y := by
  rw [infinity] at h
  exact real_of_abs_lt x (of_decide_eq_true (of_ofBool h))

/-- A disjunction with a negated bit: the bit is 0 unless the first disjunct holds. -/
theorem ori_noti : ∀ x y : BitVec 1, IntOp.ori x (~~~y) = 1#1 → y = 0#1 ∨ x = 1#1 := by decide

/-- The negated mask over the rows of the noise. -/
theorem masked_out (mask : IVec Cert.Pre_admitted.S4x1024 1)
    (h1 : Cert.Pre_admitted.S4x1024.BroadcastsInDim Cert.Pre_admitted.S4x1x1024 ![0, 2])
    (h2 : Cert.Pre_admitted.S4x1x1024.BroadcastsInDim Cert.Pre_admitted.S4x1024x1024 ![0, 1, 2])
    (b : Fin 4) (i p : Fin 1024) :
    broadcastInDim Cert.Pre_admitted.S4x1024x1024 ![0, 1, 2] h2
        (noti (broadcastInDim Cert.Pre_admitted.S4x1x1024 ![0, 2] h1 mask)) (ix3 b i p) = ~~~(mask (ix2 b p)) := by
  unfold noti
  pointwise

/-- The printed precondition, read entry by entry. -/
theorem admitted [Cert.Pre_admitted.Facts]
    (m : (ℓ : Loc Cert.KernelIdeal.nD Cert.KernelIdeal.τ Cert.KernelIdeal.sig) → Buf (Elt Ideal) ℓ)
    (h : Pre_KernelIdeal_admitted m) (c : Dev Cert.KernelIdeal.nD) :
    Admitted (m ((c.tc : Thread Cert.KernelIdeal.nD Cert.KernelIdeal.τ).loc Cert.KernelIdeal.main_arg2))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg5)) := by
  obtain ⟨h1, h2, h3, h4⟩ := h c
  have e1 := congrFun h1 (fun a => a.elim0)
  have e2 := congrFun h2 (fun a => a.elim0)
  have e3 := congrFun h3 (fun a => a.elim0)
  have e4 := congrFun h4 (fun a => a.elim0)
  dsimp only [Cert.Pre_admitted.fn, Cert.Pre_admitted.fn_part1] at e1 e2 e3 e4
  haveI := one_index
  refine ⟨fun b i p => ?_, fun b i r hr => ?_, fun i => ?_, fun i => ?_⟩
  · have k := Host.reduce_andi_all _ _ _ _ _ e1 (ix3 b i p)
    have k : IntOp.ori _ _ = 1#1 := k
    rw [masked_out] at k
    refine (ori_noti _ _ k).imp (fun k => k) fun k => ?_
    have k : Ideal.cmp .ole _ (Ideal.ofBits .f32 0x3F800000#32) = 1#1 := k
    rw [one] at k
    exact of_decide_eq_true (of_ofBool k)
  · have k := Host.reduce_andi_all _ _ _ _ _ e2 (ix3 b i ⟨r.val, hr⟩)
    have k : Ideal.cmp .ogt _ (Ideal.ofBits .f32 0xBF800000#32) = 1#1 := k
    rw [minus_one] at k
    have k := of_decide_eq_true (of_ofBool k)
    rw [Cert.ReferenceIdeal.Staged.topK_values] at k
    exact k
  · exact real_of_cmp _ (Host.reduce_andi_all _ _ _ _ _ e3 i)
  · exact real_of_cmp _ (Host.reduce_andi_all _ _ _ _ _ e4 i)

end Cert.Inputs

end
-- ==== Proof.Agreement.lean ====
/-
  The two closed forms agree: averaging the selected rows and then multiplying by the first matrix is multiplying each
  selected row and then averaging, since the rows and the matrix hold reals.
-/
module

public import proofs.«01_k».proof.Proof.KernelArray
public import proofs.«01_k».proof.Proof.RefArray
public import proofs.«01_k».proof.Proof.Pre
public import Idealize.ShloMosaic.Lib.Quiescent

@[expose] public section

noncomputable section

namespace Cert.Agreement

open Idealize.ShloMosaic Idealize.ShloMosaic.TcCoe Idealize.SL.Sem
open Cert.Nbhd

/-- The kernel's closed form is the reference's. -/
theorem result_eq (pairs : FVec Ideal Cert.ReferenceIdeal.S4x1024x1024x6 .f32) (a : FVec Ideal Cert.ReferenceIdeal.S4x1024x128 .f32)
    (mask : IVec Cert.ReferenceIdeal.S4x1024 1) (wq wk wv : FVec Ideal Cert.ReferenceIdeal.S128x512 .f32)
    (wo : FVec Ideal Cert.ReferenceIdeal.S512x128 .f32) (bo : FVec Ideal Cert.ReferenceIdeal.S128 .f32)
    (noise : FVec Ideal Cert.ReferenceIdeal.S4x1024x1024 .f32) (h : Cert.Inputs.Admitted mask noise a wv)
    (b : Fin 4) (i : Fin 1024) (o : Fin 128) :
    Cert.KernelIdeal.Rounds.result noise a wv wo bo b i o
      = Cert.ReferenceIdeal.Staged.whole pairs a mask wq wk wv wo bo noise (ix3 b i o) := by
  rw [Cert.ReferenceIdeal.Staged.whole_apply pairs a mask wq wk wv wo bo noise b i o (h.below b i)]
  unfold Cert.KernelIdeal.Rounds.result
  refine congrArg (· + _) (Finset.sum_congr rfl fun d _ => congrArg (· * _) ?_)
  exact swap_sums (1 / 32) (fun (j : Fin 32) (e : Fin 128) =>
      (a (ix3 b (order (fun p => (noise (ix3 b i p) : EReal)) (j.castLE (by decide))) e) : EReal))
    (fun e => (wv (ix2 e d) : EReal)) (fun j e => h.rows _) fun e => h.first _

/-- What the kernel leaves in its output array is the reference's second result on the same inputs. -/
theorem array_eq (m : (ℓ : Loc Cert.KernelIdeal.nD Cert.KernelIdeal.τ Cert.KernelIdeal.sig) → Buf (Elt Ideal) ℓ)
    (h : Pre_KernelIdeal_admitted m) (c : Dev Cert.KernelIdeal.nD) :
    (Cert.KernelIdeal.Gen.dats m 0 c).arrAt 5 Cert.KernelIdeal.cfg0.N
      = Cert.ReferenceIdeal.Staged.whole
          (m ((c : Thread Cert.KernelIdeal.nD Cert.KernelIdeal.τ).loc Cert.KernelIdeal.main_arg0))
          (m ((c : Thread Cert.KernelIdeal.nD Cert.KernelIdeal.τ).loc Cert.KernelIdeal.main_arg1))
          (m ((c : Thread Cert.KernelIdeal.nD Cert.KernelIdeal.τ).loc Cert.KernelIdeal.main_arg2))
          (m ((c : Thread Cert.KernelIdeal.nD Cert.KernelIdeal.τ).loc Cert.KernelIdeal.main_arg3))
          (m ((c : Thread Cert.KernelIdeal.nD Cert.KernelIdeal.τ).loc Cert.KernelIdeal.main_arg4))
          (m ((c : Thread Cert.KernelIdeal.nD Cert.KernelIdeal.τ).loc Cert.KernelIdeal.main_arg5))
          (m ((c : Thread Cert.KernelIdeal.nD Cert.KernelIdeal.τ).loc Cert.KernelIdeal.main_arg6))
          (m ((c : Thread Cert.KernelIdeal.nD Cert.KernelIdeal.τ).loc Cert.KernelIdeal.main_arg7))
          (m ((c : Thread Cert.KernelIdeal.nD Cert.KernelIdeal.τ).loc Cert.KernelIdeal.main_arg8)) := by
  have had := Cert.Inputs.admitted m h c
  rw [Cert.KernelIdeal.Rounds.final m c had.above]
  funext j
  obtain ⟨b, i, o, rfl⟩ : ∃ (b : Fin 4) (i : Fin 1024) (o : Fin 128), j = (ix3 b i o : Cert.KernelIdeal.S4x1024x128.Idx) :=
    ⟨j 0, j 1, j 2, funext fun a => by fin_cases a <;> rfl⟩
  exact result_eq _ _ _ _ _ _ _ _ _ had b i o

/-- The reference terminates, with its arguments unchanged and no counter raised. -/
theorem frame_reference : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- The kernel and the reference return the same three results under the precondition. -/
theorem results_agree : Cert.algebraic_KernelIdeal_ReferenceIdeal_pre_admitted := by
  intro m g m' g' hpre hargs
  refine ⟨_, _, _, (θ_run Cert.KernelIdeal.defs _ _).mono (fun r h c => ⟨(h c).2.1, (h c).1, (h c).2.2.2.1, (h c).2⟩)
    (Cert.KernelIdeal.Value.run_blocks (F := Ideal) m g), ?_⟩
  refine (θ_run Cert.ReferenceIdeal.defs _ _).mono (fun r h c => ?_) (Cert.ReferenceIdeal.Value.run (F := Ideal) m' g')
  obtain ⟨a0, a1, a2, a3, a4, a5, a6, a7, a8⟩ := hargs c
  refine ⟨(h c).1.trans a0, (h c).2.1.trans ?_, (h c).2.2.1.trans a2, (h c).2.2.2⟩
  rw [Cert.ReferenceIdeal.Staged.res_eq, a0, a1, a2, a3, a4, a5, a6, a7, a8]
  exact (array_eq m hpre c).symm

end Cert.Agreement

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_admitted
public import proofs.«01_k».proof.Proof.Agreement
public import Idealize.ShloMosaic.Adequacy
public import Idealize.ShloMosaic.Init

@[expose] public section

noncomputable section

namespace Cert.Proof

open Idealize.ShloMosaic Idealize.SL.Sem Cert.Kernel

/-- The kernel and its reference run, keep their arguments, and return the same results under the precondition. -/
theorem claim : Cert.Claim := ⟨Cert.Kernel.Gen.facts, Cert.KernelIdeal.Gen.facts, Cert.ReferenceIdeal.Gen.facts, Cert.Pre_admitted.Gen.facts,
  fun m ρ _ => Cert.Kernel.Gen.frame m ρ, fun m ρ _ => Cert.KernelIdeal.Gen.frame m ρ, fun m ρ _ => Cert.KernelIdeal.Gen.frame m ρ,
  Cert.Agreement.frame_reference, fun m ρ _ => Cert.Agreement.frame_reference m ρ trivial, trivial, Cert.Agreement.results_agree⟩

end Cert.Proof

end
